-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_scale" .f32 0x3D888889#32 ((1 / 15 : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S10000x256 : Shape := ⟨2, ![10000, 256]⟩
abbrev S10000x10000 : Shape := ⟨2, ![10000, 10000]⟩
abbrev S256x8 : Shape := ⟨2, ![256, 8]⟩
abbrev S8 : Shape := ⟨1, ![8]⟩
abbrev S8x40 : Shape := ⟨2, ![8, 40]⟩
abbrev S40 : Shape := ⟨1, ![40]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S8x40 : S_.BroadcastsInDim S8x40 (![] : Fin 0 → Fin S8x40.rank)
  reducesTo_S8x40_S_d0_1 : S8x40.ReducesTo [0, 1] S_

variable [Facts]

def fn_part1 {F : FTy → Type} [FloatOps F] (main_arg4 : FVec F S8x40 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x40 .f32 := Host.absf main_arg4
  let main_cst_6 : FVec F S_ .f32 := constant S_ .f32 0x7F800000#32
  let main_v20 : FVec F S8x40 .f32 := broadcastInDim S8x40 ![] bcast_S_S8x40 main_cst_6
  let main_v21 : IVec S8x40 1 := cmpf .olt main_v19 main_v20
  let main_c_7 : IVec S_ 1 := constantI S_ 1 1#1
  let main_v22 : IVec S_ 1 := (fun x v => Host.reduce IntOp.andi x v reducesTo_S8x40_S_d0_1 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S256x8 .f32) (main_arg3 : FVec F S8 .f32) (main_arg4 : FVec F S8x40 .f32) (main_arg5 : FVec F S40 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x8 .f32 := Host.absf main_arg2
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x8 : Shape := ⟨2, ![256, 8]⟩
abbrev S8 : Shape := ⟨1, ![8]⟩
abbrev S8x40 : Shape := ⟨2, ![8, 40]⟩
abbrev S40 : Shape := ⟨1, ![40]⟩
abbrev S1x8 : Shape := ⟨2, ![1, 8]⟩
abbrev S1x40 : Shape := ⟨2, ![1, 40]⟩
abbrev S10000x8 : Shape := ⟨2, ![10000, 8]⟩
abbrev S10240x10000 : Shape := ⟨2, ![10240, 10000]⟩
abbrev S512x10000 : Shape := ⟨2, ![512, 10000]⟩
abbrev S512x8 : Shape := ⟨2, ![512, 8]⟩
abbrev S10000x40 : Shape := ⟨2, ![10000, 40]⟩
abbrev S1280x10000 : Shape := ⟨2, ![1280, 10000]⟩
abbrev S1280x40 : Shape := ⟨2, ![1280, 40]⟩
abbrev S640x10000 : Shape := ⟨2, ![640, 10000]⟩
abbrev S640x40 : Shape := ⟨2, ![640, 40]⟩
abbrev S1280 : Shape := ⟨1, ![1280]⟩
abbrev S1280x1 : Shape := ⟨2, ![1280, 1]⟩

abbrev nBuf : Space → Nat
  | .hbm => 11
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x8, .f32⟩
  | .hbm, ⟨3, _⟩ => ⟨S8, .f32⟩
  | .hbm, ⟨4, _⟩ => ⟨S8x40, .f32⟩
  | .hbm, ⟨5, _⟩ => ⟨S40, .f32⟩
  | .hbm, ⟨6, _⟩ => ⟨S1x8, .f32⟩
  | .hbm, ⟨7, _⟩ => ⟨S1x40, .f32⟩
  | .hbm, ⟨8, _⟩ => ⟨S10000x8, .f32⟩
  | .hbm, ⟨9, _⟩ => ⟨S10240x10000, .i4⟩
  | .hbm, ⟨10, _⟩ => ⟨S10000x40, .f32⟩
  | .local _ .vmem, ⟨0, _⟩ => ⟨S10000x256, .f32⟩
  | .local _ .vmem, ⟨1, _⟩ => ⟨S512x10000, .f32⟩
  | .local _ .vmem, ⟨2, _⟩ => ⟨S512x10000, .f32⟩
  | .local _ .vmem, ⟨3, _⟩ => ⟨S256x8, .f32⟩
  | .local _ .vmem, ⟨4, _⟩ => ⟨S1x8, .f32⟩
  | .local _ .vmem, ⟨5, _⟩ => ⟨S512x8, .f32⟩
  | .local _ .vmem, ⟨6, _⟩ => ⟨S512x8, .f32⟩
  | .local _ .vmem, ⟨7, _⟩ => ⟨S512x10000, .i4⟩
  | .local _ .vmem, ⟨8, _⟩ => ⟨S512x10000, .i4⟩
  | .local _ .vmem, ⟨9, _⟩ => ⟨S10000x8, .f32⟩
  | .local _ .vmem, ⟨10, _⟩ => ⟨S1280x10000, .i4⟩
  | .local _ .vmem, ⟨11, _⟩ => ⟨S1280x10000, .i4⟩
  | .local _ .vmem, ⟨12, _⟩ => ⟨S10000x8, .f32⟩
  | .local _ .vmem, ⟨13, _⟩ => ⟨S8x40, .f32⟩
  | .local _ .vmem, ⟨14, _⟩ => ⟨S1x40, .f32⟩
  | .local _ .vmem, ⟨15, _⟩ => ⟨S1280x40, .f32⟩
  | .local _ .vmem, ⟨16, _⟩ => ⟨S1280x40, .f32⟩
  | .local _ .vmem, ⟨17, _⟩ => ⟨S10000x40, .bf16⟩
  | .local _ .vmem, ⟨18, _⟩ => ⟨S1x40, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x10000 .i4 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x10000 .i4 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1280x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "inv_scale" => some ((1 / 15 : ℝ) : EReal)
  | _ => none
-- ==== ReferenceIdeal.lean ====
abbrev S10000x256 : Shape := ⟨2, ![10000, 256]⟩
abbrev S10000x10000 : Shape := ⟨2, ![10000, 10000]⟩
abbrev S256x8 : Shape := ⟨2, ![256, 8]⟩
abbrev S8 : Shape := ⟨1, ![8]⟩
abbrev S8x40 : Shape := ⟨2, ![8, 40]⟩
abbrev S40 : Shape := ⟨1, ![40]⟩
abbrev S10000x8 : Shape := ⟨2, ![10000, 8]⟩
abbrev S1x8 : Shape := ⟨2, ![1, 8]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 55
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x8, .f32⟩
  | .hbm, ⟨3, _⟩ => ⟨S8, .f32⟩
  | .hbm, ⟨4, _⟩ => ⟨S8x40, .f32⟩
  | .hbm, ⟨5, _⟩ => ⟨S40, .f32⟩
  | .hbm, ⟨6, _⟩ => ⟨S10000x8, .f32⟩
  | .hbm, ⟨7, _⟩ => ⟨S10000x8, .f32⟩
  | .hbm, ⟨8, _⟩ => ⟨S1x8, .f32⟩
  | .hbm, ⟨9, _⟩ => ⟨S10000x8, .f32⟩
  | .hbm, ⟨10, _⟩ => ⟨S10000x8, .f32⟩
  | .hbm, ⟨11, _⟩ => ⟨S_, .f32⟩
  | .hbm, ⟨12, _⟩ => ⟨S10000x8, .f32⟩
  | .hbm, ⟨13, _⟩ => ⟨S10000x8, .f32⟩
  | .hbm, ⟨14, _⟩ => ⟨S_, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S10000x10000, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S_, .f32⟩
  | .hbm, ⟨33, _⟩ => ⟨S10000x10000, .f32⟩
  | .hbm, ⟨34, _⟩ => ⟨S10000x10000, .f32⟩
  | .hbm, ⟨35, _⟩ => ⟨S10000x40, .f32⟩
  | .hbm, ⟨36, _⟩ => ⟨S10000x40, .f32⟩
  | .hbm, ⟨37, _⟩ => ⟨S1x40, .f32⟩
  | .hbm, ⟨38, _⟩ => ⟨S10000x40, .f32⟩
  | .hbm, ⟨39, _⟩ => ⟨S10000x40, .f32⟩
  | .hbm, ⟨40, _⟩ => ⟨S_, .f32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x40, .f32⟩
  | .hbm, ⟨47, _⟩ => ⟨S10000x40, .f32⟩
  | .hbm, ⟨48, _⟩ => ⟨S10000x40, .f32⟩
  | .hbm, ⟨49, _⟩ => ⟨S_, .f32⟩
  | .hbm, ⟨50, _⟩ => ⟨S10000, .f32⟩
  | .hbm, ⟨51, _⟩ => ⟨S10000x1, .f32⟩
  | .hbm, ⟨52, _⟩ => ⟨S10000x1, .f32⟩
  | .hbm, ⟨53, _⟩ => ⟨S10000x40, .f32⟩
  | .hbm, ⟨54, _⟩ => ⟨S10000x40, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_cst_2 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call3_cst : Ref sig .tc := ⟨.hbm, 40, rfl⟩
abbrev main_call3_v0 : Ref sig .tc := ⟨.hbm, 41, rfl⟩
abbrev main_call3_cst_0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_v6 : Ref sig .tc := ⟨.hbm, 48, rfl⟩
abbrev main_call3_cst_1 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_v21 : Ref sig .tc := ⟨.hbm, 54, rfl⟩

abbrev nD : Nat := 1
abbrev τ : Topo := Topo.v7x

variable {F : FTy → Type} [FloatOps F]
-- ==== Proof.Ideal.Body.lean ====
module

public import proofs.«01_k».proof.Proof.Gen.KernelIdeal.Points
public import proofs.«01_k».proof.Proof.Gen.KernelIdeal.Skeleton
public import proofs.«01_k».proof.Proof.Gen.KernelIdeal.Regions
public import Idealize.ShloMosaic.Lib.Tactic

/-!
  The two kernel bodies, run once at any whole staging buffers. Each lemma takes the buffers the body touches at
  named contents and hands them back at the contents the body leaves, as the payloads of the generated skeleton.
  Each body has two cases: the first grid point fills the scratch buffers, every later one reads them.
-/

@[expose] public section

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The certificate's resource algebra: the rounds of the pipelines twice, one copy for each region. -/
abbrev UU : Type := URounds (GSem nD τ sig) Unit × URounds (GSem nD τ sig) Unit

local notation "𝕄" => MT nD τ sig Unit (Elt F) ℕ UU ℕ

/-- The offset zero on two axes. -/
theorem zero2 : (![0, 0] : Fin 2 → ℕ) = fun _ => 0 := by decide

/-- A load of the whole view reads the view. -/
theorem load_full {κ : Kind} {sp : Space} {s : Shape} {e : EltTy} (Val : EltTy → Type) (v : View sig κ sp s e) {off : Fin s.rank → ℕ}
    (h : off = fun _ => 0) (inb : ∀ a, off a + s.size a ≤ s.size a) (f : v.ty.Contents Val) :
    v.readAt Val (Rect.unit off s.size inb).toLoadRect f = v.read Val f := by
  subst h
  funext y
  rw [View.readAt_apply]
  exact congrArg (v.read Val f) (Rect.emb_whole_apply s y)

/-- A store of the whole view leaves the payload. -/
theorem store_full {κ : Kind} {sp : Space} {s : Shape} {e : EltTy} (Val : EltTy → Type) (v : View sig κ sp s e) {off : Fin s.rank → ℕ}
    (h : off = fun _ => 0) (inb : ∀ a, off a + s.size a ≤ s.size a) (f : v.ty.Contents Val) (x : s.Idx → Val e) :
    v.read Val (v.writes Val f [⟨Rect.unit off s.size inb, x⟩]) = x := by
  subst h; exact View.read_writes_whole v f x

/-- A load of the whole view over such a store reads the payload. -/
theorem cover_full {κ : Kind} {sp : Space} {s : Shape} {e : EltTy} (v : View sig κ sp s e) {off : Fin s.rank → ℕ}
    (h : off = fun _ => 0) (inb inb' : ∀ a, off a + s.size a ≤ s.size a) (x : s.Idx → Elt F e) :
    v.readCov (Val := Elt F) [⟨Rect.unit off s.size inb, x⟩] (Rect.unit off s.size inb').toLoadRect = x :=
  (load_full (Elt F) v h inb' _).trans (store_full (Elt F) v h inb _ x)

/-- The condition of both bodies' branch, on the grid coordinate's word. -/
abbrev atFirst (n : ℕ) : Prop :=
  Scalar.cmpi .ne (Scalar.extui (Scalar.cmpi .eq (BitVec.ofNat 32 n) 0#32) : BitVec 32) 0#32 = 1#1

/-- The upper half of a block of 1280 rows. -/
def upper {e : EltTy} (X : S1280x10000.Idx → Elt F e) : S640x10000.Idx → Elt F e := fun y =>
  X ((Rect.unit (s := S1280x10000) ![0, 0] S640x10000.size inb_S1280x10000_S640x10000_0_0).toLoadRect.idx y)

/-- The lower half of a block of 1280 rows. -/
def lower {e : EltTy} (X : S1280x10000.Idx → Elt F e) : S640x10000.Idx → Elt F e := fun y =>
  X ((Rect.unit (s := S1280x10000) ![640, 0] S640x10000.size inb_S1280x10000_S640x10000_640_0).toLoadRect.idx y)

/-- Pass 1 at its first grid point: the scratch is set to the features' product, then the block is done. -/
theorem run0_first (c : Dev nD) (i : grid0.Coords)
    (arg1 : Memref sig .tc .vmem S10000x256 .f32) (harg1 : arg1.IsWhole)
    (arg2 : Memref sig .tc .vmem S512x10000 .f32) (harg2 : arg2.IsWhole)
    (arg3 : Memref sig .tc .vmem S256x8 .f32) (harg3 : arg3.IsWhole)
    (arg4 : Memref sig .tc .vmem S1x8 .f32) (harg4 : arg4.IsWhole)
    (arg5 : Memref sig .tc .vmem S512x8 .f32) (harg5 : arg5.IsWhole)
    (arg6 : Memref sig .tc .vmem S512x10000 .i4) (harg6 : arg6.IsWhole)
    (arg7 : Memref sig .tc .vmem S10000x8 .f32) (harg7 : arg7.IsWhole)
    (hc : atFirst (i 0).val)
    (X1 : S10000x256.Idx → Elt F .f32)
    (X2 : S512x10000.Idx → Elt F .f32)
    (X3 : S256x8.Idx → Elt F .f32)
    (X4 : S1x8.Idx → Elt F .f32)
    (K : PUnit → sProp 𝕄) :
    iprop(owns (c : Thread nD τ) arg1 fullShare X1
        ∗ owns (c : Thread nD τ) arg2 fullShare X2
        ∗ owns (c : Thread nD τ) arg3 fullShare X3
        ∗ owns (c : Thread nD τ) arg4 fullShare X4
        ∗ (∃ d, owns (c : Thread nD τ) arg5 fullShare d)
        ∗ (∃ d, owns (c : Thread nD τ) arg6 fullShare d)
        ∗ (∃ d, owns (c : Thread nD τ) arg7 fullShare d)
        ∗ (iprop(owns (c : Thread nD τ) arg1 fullShare X1
            ∗ owns (c : Thread nD τ) arg2 fullShare X2
            ∗ owns (c : Thread nD τ) arg3 fullShare X3
            ∗ owns (c : Thread nD τ) arg4 fullShare X4
            ∗ owns (c : Thread nD τ) arg5 fullShare (k0_pay2 X2 (k0_pay1 X1 X3) X4)
            ∗ owns (c : Thread nD τ) arg6 fullShare (k0_pay3 X2)
            ∗ owns (c : Thread nD τ) arg7 fullShare (k0_pay1 X1 X3)) -∗ K ⟨⟩))
      ⊢ wp frame (wpE (defs₀ (F := F)) Variants.none c none) Set.univ
          (cc0__pass1_kernel i arg1 harg1 arg2 harg2 arg3 harg3 arg4 harg4 arg5 harg5 arg6 harg6 arg7 harg7) K := by
  simp only [cc0__pass1_kernel_eq_skeleton]; unfold cc0__pass1_kernel_skel
  simp only [dif_pos (show Scalar.cmpi .ne (Scalar.extui (Scalar.cmpi .eq (BitVec.ofNat 32 (i 0).val) 0#32) : BitVec 32) 0#32 = 1#1 from hc)]
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, Hk⟩
  sl_exec
  sl_step
  iapply Hk
  have e1 : arg1.view.readAt (Elt F) (Rect.unit (s := S10000x256) ![0, 0] ![10000, 256] inb_S10000x256_S10000x256_0_0).toLoadRect f1 = X1 := (load_full (Elt F) arg1.view zero2 inb_S10000x256_S10000x256_0_0 f1).trans h1
  have e2 : arg2.view.readAt (Elt F) (Rect.unit (s := S512x10000) ![0, 0] ![512, 10000] inb_S512x10000_S512x10000_0_0).toLoadRect f2 = X2 := (load_full (Elt F) arg2.view zero2 inb_S512x10000_S512x10000_0_0 f2).trans h2
  have e3 : arg3.view.readAt (Elt F) (Rect.unit (s := S256x8) ![0, 0] ![256, 8] inb_S256x8_S256x8_0_0).toLoadRect f3 = X3 := (load_full (Elt F) arg3.view zero2 inb_S256x8_S256x8_0_0 f3).trans h3
  have e4 : arg4.view.readAt (Elt F) (Rect.unit (s := S1x8) ![0, 0] ![1, 8] inb_S1x8_S1x8_0_0).toLoadRect f4 = X4 := (load_full (Elt F) arg4.view zero2 inb_S1x8_S1x8_0_0 f4).trans h4
  have c7 : arg7.view.readCov (Val := Elt F) [⟨Rect.unit (s := S10000x8) ![0, 0] ![10000, 8] inb_S10000x8_S10000x8_0_0, k0_pay1 X1 X3⟩]
      (Rect.unit (s := S10000x8) ![0, 0] ![10000, 8] inb_S10000x8_S10000x8_0_0).toLoadRect = k0_pay1 X1 X3 := cover_full arg7.view zero2 _ _ _
  isplitl [H1]
  · iexists _; isplitr; swap; (· iexact H1); ipureintro
    exact h1
  isplitl [H2]
  · iexists _; isplitr; swap; (· iexact H2); ipureintro
    exact h2
  isplitl [H3]
  · iexists _; isplitr; swap; (· iexact H3); ipureintro
    exact h3
  isplitl [H4]
  · iexists _; isplitr; swap; (· iexact H4); ipureintro
    exact h4
  isplitl [H5]
  · iexists _; isplitr; swap; (· iexact H5); ipureintro
    unfold run0_first.sl.v4 run0_first.sl.H7_1; rw [store_full (Elt F) arg5.view zero2]
    simp only [e1, e2, e3, e4, c7]
  isplitl [H6]
  · iexists _; isplitr; swap; (· iexact H6); ipureintro
    rw [store_full (Elt F) arg6.view zero2]
    simp only [e2]
  · iexists _; isplitr; swap; (· iexact H7); ipureintro
    unfold run0_first.sl.H7_1; rw [store_full (Elt F) arg7.view zero2]
    simp only [e1, e3]

/-- Pass 1 at a later grid point: the block is done from the scratch. -/
theorem run0_later (c : Dev nD) (i : grid0.Coords)
    (arg1 : Memref sig .tc .vmem S10000x256 .f32) (harg1 : arg1.IsWhole)
    (arg2 : Memref sig .tc .vmem S512x10000 .f32) (harg2 : arg2.IsWhole)
    (arg3 : Memref sig .tc .vmem S256x8 .f32) (harg3 : arg3.IsWhole)
    (arg4 : Memref sig .tc .vmem S1x8 .f32) (harg4 : arg4.IsWhole)
    (arg5 : Memref sig .tc .vmem S512x8 .f32) (harg5 : arg5.IsWhole)
    (arg6 : Memref sig .tc .vmem S512x10000 .i4) (harg6 : arg6.IsWhole)
    (arg7 : Memref sig .tc .vmem S10000x8 .f32) (harg7 : arg7.IsWhole)
    (hc : ¬ atFirst (i 0).val)
    (X2 : S512x10000.Idx → Elt F .f32)
    (X4 : S1x8.Idx → Elt F .f32)
    (X7 : S10000x8.Idx → Elt F .f32)
    (K : PUnit → sProp 𝕄) :
    iprop(owns (c : Thread nD τ) arg2 fullShare X2
        ∗ owns (c : Thread nD τ) arg4 fullShare X4
        ∗ (∃ d, owns (c : Thread nD τ) arg5 fullShare d)
        ∗ (∃ d, owns (c : Thread nD τ) arg6 fullShare d)
        ∗ owns (c : Thread nD τ) arg7 fullShare X7
        ∗ (iprop(owns (c : Thread nD τ) arg2 fullShare X2
            ∗ owns (c : Thread nD τ) arg4 fullShare X4
            ∗ owns (c : Thread nD τ) arg5 fullShare (k0_pay2 X2 X7 X4)
            ∗ owns (c : Thread nD τ) arg6 fullShare (k0_pay3 X2)
            ∗ owns (c : Thread nD τ) arg7 fullShare X7) -∗ K ⟨⟩))
      ⊢ wp frame (wpE (defs₀ (F := F)) Variants.none c none) Set.univ
          (cc0__pass1_kernel i arg1 harg1 arg2 harg2 arg3 harg3 arg4 harg4 arg5 harg5 arg6 harg6 arg7 harg7) K := by
  simp only [cc0__pass1_kernel_eq_skeleton]; unfold cc0__pass1_kernel_skel
  simp only [dif_neg (show ¬ Scalar.cmpi .ne (Scalar.extui (Scalar.cmpi .eq (BitVec.ofNat 32 (i 0).val) 0#32) : BitVec 32) 0#32 = 1#1 from hc)]
  unfold owns
  iintro ⟨⟨%f2, %h2, H2⟩, ⟨%f4, %h4, H4⟩, ⟨%d5, %f5, -, H5⟩, ⟨%d6, %f6, -, H6⟩, ⟨%f7, %h7, H7⟩, Hk⟩
  sl_exec
  sl_step
  iapply Hk
  have e2 : arg2.view.readAt (Elt F) (Rect.unit (s := S512x10000) ![0, 0] ![512, 10000] inb_S512x10000_S512x10000_0_0).toLoadRect f2 = X2 := (load_full (Elt F) arg2.view zero2 inb_S512x10000_S512x10000_0_0 f2).trans h2
  have e4 : arg4.view.readAt (Elt F) (Rect.unit (s := S1x8) ![0, 0] ![1, 8] inb_S1x8_S1x8_0_0).toLoadRect f4 = X4 := (load_full (Elt F) arg4.view zero2 inb_S1x8_S1x8_0_0 f4).trans h4
  have e7 : arg7.view.readAt (Elt F) (Rect.unit (s := S10000x8) ![0, 0] ![10000, 8] inb_S10000x8_S10000x8_0_0).toLoadRect f7 = X7 := (load_full (Elt F) arg7.view zero2 inb_S10000x8_S10000x8_0_0 f7).trans h7
  isplitl [H2]
  · iexists _; isplitr; swap; (· iexact H2); ipureintro
    exact h2
  isplitl [H4]
  · iexists _; isplitr; swap; (· iexact H4); ipureintro
    exact h4
  isplitl [H5]
  · iexists _; isplitr; swap; (· iexact H5); ipureintro
    rw [store_full (Elt F) arg5.view zero2]
    simp only [e2, e4, e7]
  isplitl [H6]
  · iexists _; isplitr; swap; (· iexact H6); ipureintro
    rw [store_full (Elt F) arg6.view zero2]
    simp only [e2, e4, e7]
  · iexists _; isplitr; swap; (· iexact H7); ipureintro
    exact h7

/-- Pass 2 at its first grid point: both scratch buffers are set, then the block is done. -/
theorem run1_first (c : Dev nD) (i : grid1.Coords)
    (arg1 : Memref sig .tc .vmem S1280x10000 .i4) (harg1 : arg1.IsWhole)
    (arg2 : Memref sig .tc .vmem S10000x8 .f32) (harg2 : arg2.IsWhole)
    (arg3 : Memref sig .tc .vmem S8x40 .f32) (harg3 : arg3.IsWhole)
    (arg4 : Memref sig .tc .vmem S1x40 .f32) (harg4 : arg4.IsWhole)
    (arg5 : Memref sig .tc .vmem S1280x40 .f32) (harg5 : arg5.IsWhole)
    (arg6 : Memref sig .tc .vmem S10000x40 .bf16) (harg6 : arg6.IsWhole)
    (arg7 : Memref sig .tc .vmem S1x40 .f32) (harg7 : arg7.IsWhole)
    (hc : atFirst (i 0).val)
    (X1 : S1280x10000.Idx → Elt F .i4)
    (X2 : S10000x8.Idx → Elt F .f32)
    (X3 : S8x40.Idx → Elt F .f32)
    (X4 : S1x40.Idx → Elt F .f32)
    (K : PUnit → sProp 𝕄) :
    iprop(owns (c : Thread nD τ) arg1 fullShare X1
        ∗ owns (c : Thread nD τ) arg2 fullShare X2
        ∗ owns (c : Thread nD τ) arg3 fullShare X3
        ∗ owns (c : Thread nD τ) arg4 fullShare X4
        ∗ (∃ d, owns (c : Thread nD τ) arg5 fullShare d)
        ∗ (∃ d, owns (c : Thread nD τ) arg6 fullShare d)
        ∗ (∃ d, owns (c : Thread nD τ) arg7 fullShare d)
        ∗ (iprop(owns (c : Thread nD τ) arg1 fullShare X1
            ∗ owns (c : Thread nD τ) arg2 fullShare X2
            ∗ owns (c : Thread nD τ) arg3 fullShare X3
            ∗ owns (c : Thread nD τ) arg4 fullShare X4
            ∗ owns (c : Thread nD τ) arg5 fullShare (k1_pay4 (upper X1) (k1_pay3 X2 X3) (lower X1) (k1_pay3 X2 X3) (k1_pay2 X2 X3) X4)
            ∗ owns (c : Thread nD τ) arg6 fullShare (k1_pay3 X2 X3)
            ∗ owns (c : Thread nD τ) arg7 fullShare (k1_pay2 X2 X3)) -∗ K ⟨⟩))
      ⊢ wp frame (wpE (defs₀ (F := F)) Variants.none c none) Set.univ
          (cc1__pass2_kernel i arg1 harg1 arg2 harg2 arg3 harg3 arg4 harg4 arg5 harg5 arg6 harg6 arg7 harg7) K := by
  simp only [cc1__pass2_kernel_eq_skeleton]; unfold cc1__pass2_kernel_skel
  simp only [dif_pos (show Scalar.cmpi .ne (Scalar.extui (Scalar.cmpi .eq (BitVec.ofNat 32 (i 0).val) 0#32) : BitVec 32) 0#32 = 1#1 from hc)]
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, Hk⟩
  sl_exec
  sl_step
  iapply Hk
  have e1a : arg1.view.readAt (Elt F) (Rect.unit (s := S1280x10000) ![0, 0] ![640, 10000] inb_S1280x10000_S640x10000_0_0).toLoadRect f1 = upper X1 := by
    funext y; rw [View.readAt_apply, h1]; rfl
  have e1b : arg1.view.readAt (Elt F) (Rect.unit (s := S1280x10000) ![640, 0] ![640, 10000] inb_S1280x10000_S640x10000_640_0).toLoadRect f1 = lower X1 := by
    funext y; rw [View.readAt_apply, h1]; rfl
  have e2 : arg2.view.readAt (Elt F) (Rect.unit (s := S10000x8) ![0, 0] ![10000, 8] inb_S10000x8_S10000x8_0_0).toLoadRect f2 = X2 := (load_full (Elt F) arg2.view zero2 inb_S10000x8_S10000x8_0_0 f2).trans h2
  have e3 : arg3.view.readAt (Elt F) (Rect.unit (s := S8x40) ![0, 0] ![8, 40] inb_S8x40_S8x40_0_0).toLoadRect f3 = X3 := (load_full (Elt F) arg3.view zero2 inb_S8x40_S8x40_0_0 f3).trans h3
  have e4 : arg4.view.readAt (Elt F) (Rect.unit (s := S1x40) ![0, 0] ![1, 40] inb_S1x40_S1x40_0_0).toLoadRect f4 = X4 := (load_full (Elt F) arg4.view zero2 inb_S1x40_S1x40_0_0 f4).trans h4
  have c6 : arg6.view.readCov (Val := Elt F) [⟨Rect.unit (s := S10000x40) ![0, 0] ![10000, 40] inb_S10000x40_S10000x40_0_0, k1_pay3 X2 X3⟩]
      (Rect.unit (s := S10000x40) ![0, 0] ![10000, 40] inb_S10000x40_S10000x40_0_0).toLoadRect = k1_pay3 X2 X3 := cover_full arg6.view zero2 _ _ _
  have c7 : arg7.view.readCov (Val := Elt F) [⟨Rect.unit (s := S1x40) ![0, 0] ![1, 40] inb_S1x40_S1x40_0_0, k1_pay2 X2 X3⟩]
      (Rect.unit (s := S1x40) ![0, 0] ![1, 40] inb_S1x40_S1x40_0_0).toLoadRect = k1_pay2 X2 X3 := cover_full arg7.view zero2 _ _ _
  isplitl [H1]
  · iexists _; isplitr; swap; (· iexact H1); ipureintro
    exact h1
  isplitl [H2]
  · iexists _; isplitr; swap; (· iexact H2); ipureintro
    exact h2
  isplitl [H3]
  · iexists _; isplitr; swap; (· iexact H3); ipureintro
    exact h3
  isplitl [H4]
  · iexists _; isplitr; swap; (· iexact H4); ipureintro
    exact h4
  isplitl [H5]
  · iexists _; isplitr; swap; (· iexact H5); ipureintro
    unfold run1_first.sl.v6 run1_first.sl.v14 run1_first.sl.H6_1 run1_first.sl.H7_1; rw [store_full (Elt F) arg5.view zero2]
    simp only [e1a, e1b, e2, e3, e4, c6, c7]
  isplitl [H6]
  · iexists _; isplitr; swap; (· iexact H6); ipureintro
    unfold run1_first.sl.H6_1; rw [store_full (Elt F) arg6.view zero2]
    simp only [e2, e3]
  · iexists _; isplitr; swap; (· iexact H7); ipureintro
    unfold run1_first.sl.H7_1; rw [store_full (Elt F) arg7.view zero2]
    simp only [e2, e3]

/-- Pass 2 at a later grid point: the block is done from the scratch. -/
theorem run1_later (c : Dev nD) (i : grid1.Coords)
    (arg1 : Memref sig .tc .vmem S1280x10000 .i4) (harg1 : arg1.IsWhole)
    (arg2 : Memref sig .tc .vmem S10000x8 .f32) (harg2 : arg2.IsWhole)
    (arg3 : Memref sig .tc .vmem S8x40 .f32) (harg3 : arg3.IsWhole)
    (arg4 : Memref sig .tc .vmem S1x40 .f32) (harg4 : arg4.IsWhole)
    (arg5 : Memref sig .tc .vmem S1280x40 .f32) (harg5 : arg5.IsWhole)
    (arg6 : Memref sig .tc .vmem S10000x40 .bf16) (harg6 : arg6.IsWhole)
    (arg7 : Memref sig .tc .vmem S1x40 .f32) (harg7 : arg7.IsWhole)
    (hc : ¬ atFirst (i 0).val)
    (X1 : S1280x10000.Idx → Elt F .i4)
    (X4 : S1x40.Idx → Elt F .f32)
    (X6 : S10000x40.Idx → Elt F .bf16)
    (X7 : S1x40.Idx → Elt F .f32)
    (K : PUnit → sProp 𝕄) :
    iprop(owns (c : Thread nD τ) arg1 fullShare X1
        ∗ owns (c : Thread nD τ) arg4 fullShare X4
        ∗ (∃ d, owns (c : Thread nD τ) arg5 fullShare d)
        ∗ owns (c : Thread nD τ) arg6 fullShare X6
        ∗ owns (c : Thread nD τ) arg7 fullShare X7
        ∗ (iprop(owns (c : Thread nD τ) arg1 fullShare X1
            ∗ owns (c : Thread nD τ) arg4 fullShare X4
            ∗ owns (c : Thread nD τ) arg5 fullShare (k1_pay4 (upper X1) X6 (lower X1) X6 X7 X4)
            ∗ owns (c : Thread nD τ) arg6 fullShare X6
            ∗ owns (c : Thread nD τ) arg7 fullShare X7) -∗ K ⟨⟩))
      ⊢ wp frame (wpE (defs₀ (F := F)) Variants.none c none) Set.univ
          (cc1__pass2_kernel i arg1 harg1 arg2 harg2 arg3 harg3 arg4 harg4 arg5 harg5 arg6 harg6 arg7 harg7) K := by
  simp only [cc1__pass2_kernel_eq_skeleton]; unfold cc1__pass2_kernel_skel
  simp only [dif_neg (show ¬ Scalar.cmpi .ne (Scalar.extui (Scalar.cmpi .eq (BitVec.ofNat 32 (i 0).val) 0#32) : BitVec 32) 0#32 = 1#1 from hc)]
  unfold owns
  iintro ⟨⟨%f1, %h1, H1⟩, ⟨%f4, %h4, H4⟩, ⟨%d5, %f5, -, H5⟩, ⟨%f6, %h6, H6⟩, ⟨%f7, %h7, H7⟩, Hk⟩
  sl_exec
  sl_step
  iapply Hk
  have e1a : arg1.view.readAt (Elt F) (Rect.unit (s := S1280x10000) ![0, 0] ![640, 10000] inb_S1280x10000_S640x10000_0_0).toLoadRect f1 = upper X1 := by
    funext y; rw [View.readAt_apply, h1]; rfl
  have e1b : arg1.view.readAt (Elt F) (Rect.unit (s := S1280x10000) ![640, 0] ![640, 10000] inb_S1280x10000_S640x10000_640_0).toLoadRect f1 = lower X1 := by
    funext y; rw [View.readAt_apply, h1]; rfl
  have e4 : arg4.view.readAt (Elt F) (Rect.unit (s := S1x40) ![0, 0] ![1, 40] inb_S1x40_S1x40_0_0).toLoadRect f4 = X4 := (load_full (Elt F) arg4.view zero2 inb_S1x40_S1x40_0_0 f4).trans h4
  have e6 : arg6.view.readAt (Elt F) (Rect.unit (s := S10000x40) ![0, 0] ![10000, 40] inb_S10000x40_S10000x40_0_0).toLoadRect f6 = X6 := (load_full (Elt F) arg6.view zero2 inb_S10000x40_S10000x40_0_0 f6).trans h6
  have e7 : arg7.view.readAt (Elt F) (Rect.unit (s := S1x40) ![0, 0] ![1, 40] inb_S1x40_S1x40_0_0).toLoadRect f7 = X7 := (load_full (Elt F) arg7.view zero2 inb_S1x40_S1x40_0_0 f7).trans h7
  isplitl [H1]
  · iexists _; isplitr; swap; (· iexact H1); ipureintro
    exact h1
  isplitl [H4]
  · iexists _; isplitr; swap; (· iexact H4); ipureintro
    exact h4
  isplitl [H5]
  · iexists _; isplitr; swap; (· iexact H5); ipureintro
    rw [store_full (Elt F) arg5.view zero2]
    simp only [e1a, e1b, e4, e6, e7]
  isplitl [H6]
  · iexists _; isplitr; swap; (· iexact H6); ipureintro
    exact h6
  · iexists _; isplitr; swap; (· iexact H7); ipureintro
    exact h7

end Cert.KernelIdeal.Two

end
-- ==== Proof.Ideal.Region0.lean ====
module

public import proofs.«01_k».proof.Proof.Ideal.Body
public import Idealize.ShloMosaic.Lib.Pipeline.RegionsLoop
public import Idealize.ShloMosaic.Lib.Pipeline.FrameBody
public import Idealize.ShloMosaic.Lib.Pipeline.DatRel
public import Idealize.ShloMosaic.Lib.Pipeline.ArrRel

/-!
  Pass 1 as a region of the program. The adjacency blocks overhang the array at the last point, and nothing is known
  of what a staging buffer holds past the array's end. So the two results are held to a relation: what the body leaves
  is its payload at the fetched block completed by some unknown rows.
-/

@[expose] public section

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ UU ℕ

/-- A core's buffers at a valuation, per reference. -/
abbrev VV (F : FTy → Type) : Type := (c : Dev nD) → (b : Ref sig .tc) → Buf (Elt F) ((c : Thread nD τ).loc b)

variable (V : VV F)

/-! ## The proof data -/

/-- The block of the adjacency array that the fetch at point `t` reads: its part inside the array. -/
def adjBlk (c : Dev nD) (t : Fin cfg0.N) : (win0_1.xblock (grid0.coords t)).Idx → Elt F .f32 :=
  (win0_1.blk t).view.read (Elt F) (V c main_arg1)

/-- The staging buffer after that fetch, the rows past the array's end at `d`. -/
def adjFill (c : Dev nD) (t : Fin cfg0.N) (d : S512x10000.Idx → Elt F .f32) : S512x10000.Idx → Elt F .f32 :=
  win0_1.fill (grid0.coords t) d (adjBlk V c t)

/-- The first grid point. -/
abbrev p0 : Fin grid0.N := ⟨0, by decide⟩

/-- The features and the first weights as staged, and the first bias as the host reshaped it. -/
def xBlk (c : Dev nD) : S10000x256.Idx → Elt F .f32 := (win0_0.blk p0).view.read (Elt F) (V c main_arg0)
/-- The first weights as staged. -/
def w1Blk (c : Dev nD) : S256x8.Idx → Elt F .f32 := (win0_2.blk p0).view.read (Elt F) (V c main_arg2)
/-- The first bias as staged. -/
def b1Blk (c : Dev nD) : S1x8.Idx → Elt F .f32 := (win0_3.blk p0).view.read (Elt F) (V c main_v0)

/-- What the scratch holds from the first point on. -/
def s1 (c : Dev nD) : S10000x8.Idx → Elt F .f32 := k0_pay1 (xBlk V c) (w1Blk V c)

/-- The scoped buffers pass 1 does not touch. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The scoped rest is the scratch at something beside those. -/
theorem scoped0 (c : Dev nD) :
    (Pipeline.scopedRest (Ix := Unit) (Name := ℕ) (U := UU) (Lvl := ℕ) (Val := Elt F) spec0 c : sProp 𝕄)
      = iprop((∃ f : Buf (Elt F) ((c : Thread nD τ).loc cc0_scratch0), ((c : Thread nD τ).loc cc0_scratch0) ↦{fullShare} f) ∗ rest0 c) :=
  scopedRest0_eq c

/-- The invariant before point `n`: at the first point the scratch at anything, afterwards at the product. -/
def Φ0 (c : Dev nD) : ℕ → sProp 𝕄
  | 0 => iprop((∃ f : Buf (Elt F) ((c : Thread nD τ).loc cc0_scratch0), ((c : Thread nD τ).loc cc0_scratch0) ↦{fullShare} f) ∗ rest0 c)
  | _ + 1 => iprop(owns (c : Thread nD τ) (Memref.whole cc0_scratch0) fullShare (s1 V c) ∗ rest0 c)

/-- The proof data of pass 1 entered at the valuation `V`. -/
def dat0 (c : Dev nD) : Dat τ (Elt F) Unit ℕ UU ℕ cfg0 c where
  A w := V c (Pipeline.arrRef spec0 w)
  after w t := match w with
    | ⟨0, _⟩ => xBlk V c
    | ⟨1, _⟩ => adjFill V c t (fun _ => Scalar.ofBits .f32 0#32)
    | ⟨2, _⟩ => w1Blk V c
    | ⟨3, _⟩ => b1Blk V c
    | ⟨4, _⟩ => k0_pay2 (adjFill V c t (fun _ => Scalar.ofBits .f32 0#32)) (s1 V c) (b1Blk V c)
    | ⟨5, _⟩ => k0_pay3 (adjFill V c t (fun _ => Scalar.ofBits .f32 0#32))
  Φ t := Φ0 V c t.val
  q _ := fullShare
  owed _ := 0

/-- The two results are held to a relation. -/
def fgt0 : Fin cfg0.W → Bool := fun w => decide (w = (4 : Fin 6)) || decide (w = (5 : Fin 6))

/-- What the body may leave at point `t`. -/
def Rl0 (c : Dev nD) : (w : Fin cfg0.W) → Fin cfg0.N → ((cfg0.win w).block.Idx → Elt F (cfg0.win w).elt) → Prop := fun w t X =>
  match w, X with
  | ⟨0, _⟩, _ => True
  | ⟨1, _⟩, _ => True
  | ⟨2, _⟩, _ => True
  | ⟨3, _⟩, _ => True
  | ⟨4, _⟩, X => ∃ d, X = k0_pay2 (adjFill V c t d) (s1 V c) (b1Blk V c)
  | ⟨5, _⟩, X => ∃ d, X = k0_pay3 (adjFill V c t d)

/-- The relational data. -/
abbrev rdat0 (c : Dev nD) : RDat τ (Elt F) Unit ℕ UU ℕ cfg0 c := (dat0 V c).toRRel fgt0 (Rl0 V c)

/-! ## The body obligation -/

/-- At every point the body finds the features. -/
theorem before0_0 (c : Dev nD) (t : Fin cfg0.N) (d) : (dat0 V c).before (0 : Fin 6) t d = xBlk V c :=
  (dat0 V c).before_in_eq_fetched (0 : Fin 6) rfl (fun _ => rfl) (fun _ _ _ => rfl) (fun _ => rfl) t d
/-- At every point the body finds the first weights. -/
theorem before0_2 (c : Dev nD) (t : Fin cfg0.N) (d) : (dat0 V c).before (2 : Fin 6) t d = w1Blk V c :=
  (dat0 V c).before_in_eq_fetched (2 : Fin 6) rfl (fun _ => rfl) (fun _ _ _ => rfl) (fun _ => rfl) t d
/-- At every point the body finds the first bias. -/
theorem before0_3 (c : Dev nD) (t : Fin cfg0.N) (d) : (dat0 V c).before (3 : Fin 6) t d = b1Blk V c :=
  (dat0 V c).before_in_eq_fetched (3 : Fin 6) rfl (fun _ => rfl) (fun _ _ _ => rfl) (fun _ => rfl) t d
/-- At point `t` the body finds its block of the adjacency, past the array's rows anything. -/
theorem before0_1 (c : Dev nD) (t : Fin cfg0.N) (d) : (dat0 V c).before (1 : Fin 6) t d = adjFill V c t d := by
  unfold Dat.before; rw [if_pos (fetch0_1 t)]; rfl

/-- The branch's condition at point `t`: the first point only. -/
theorem atFirst0 : ∀ t : Fin grid0.N, atFirst (grid0.coords t 0).val ↔ t.val = 0 := by decide +kernel

/-- The body at point `t` is the called function's. -/
theorem defs₀_row0 (t : Fin cfg0.N) : defs₀ (F := F) .tc cfg0.body (cfg0.bodyArgs t (cfg0.slots t)) = bodyAt0 t := by
  unfold defs₀; rw [Defs.onTc_tc]

/-- Pass 1's body keeps its relation at every point. -/
theorem body0 (c : Dev nD) : BodyObligationRel (dat0 V c) (defs₀ (F := F)) Variants.none () Set.univ fgt0 (Rl0 V c) := fun t => by
  rw [defs₀_row0, bigSep_W0, bigSep_W0]
  show iprop(Φ0 V c t.val ∗ (dat0 V c).owesAt () t.castSucc ∗ (∃ d, owns (c : Thread nD τ) (st0_0 t) fullShare ((dat0 V c).before (0 : Fin 6) t d))
      ∗ (∃ d, owns (c : Thread nD τ) (st0_1 t) fullShare ((dat0 V c).before (1 : Fin 6) t d))
      ∗ (∃ d, owns (c : Thread nD τ) (st0_2 t) fullShare ((dat0 V c).before (2 : Fin 6) t d))
      ∗ (∃ d, owns (c : Thread nD τ) (st0_3 t) fullShare ((dat0 V c).before (3 : Fin 6) t d))
      ∗ (∃ Y, ⌜(rdat0 V c).Finds (4 : Fin 6) t Y⌝ ∗ owns (c : Thread nD τ) (st0_4 t) fullShare Y)
      ∗ (∃ Y, ⌜(rdat0 V c).Finds (5 : Fin 6) t Y⌝ ∗ owns (c : Thread nD τ) (st0_5 t) fullShare Y))
    ⊢ wp frame (wpE (defs₀ (F := F)) Variants.none c none) Set.univ (bodyAt0 t) fun _ =>
      iprop(Φ0 V c (t.val + 1) ∗ (dat0 V c).owesAt () t.castSucc ∗ owns (c : Thread nD τ) (st0_0 t) fullShare (xBlk V c)
        ∗ (∃ d, owns (c : Thread nD τ) (st0_1 t) fullShare (win0_1.fill (grid0.coords t) d (win0_1.cut (grid0.coords t) (adjFill V c t (fun _ => Scalar.ofBits .f32 0#32)))))
        ∗ owns (c : Thread nD τ) (st0_2 t) fullShare (w1Blk V c)
        ∗ owns (c : Thread nD τ) (st0_3 t) fullShare (b1Blk V c)
        ∗ (∃ X, ⌜∃ d, X = k0_pay2 (adjFill V c t d) (s1 V c) (b1Blk V c)⌝ ∗ owns (c : Thread nD τ) (st0_4 t) fullShare X)
        ∗ (∃ X, ⌜∃ d, X = k0_pay3 (adjFill V c t d)⌝ ∗ owns (c : Thread nD τ) (st0_5 t) fullShare X))
  simp only [before0_0, before0_1, before0_2, before0_3]
  have hfill : ∀ d1, (owns (c : Thread nD τ) (st0_1 t) fullShare (adjFill V c t d1) : sProp 𝕄) ⊢ iprop(∃ d, owns (c : Thread nD τ) (st0_1 t) fullShare
      (win0_1.fill (grid0.coords t) d (win0_1.cut (grid0.coords t) (adjFill V c t (fun _ => Scalar.ofBits .f32 0#32))))) := fun d1 => by
    rw [show adjFill V c t d1 = win0_1.fill (grid0.coords t) d1 (win0_1.cut (grid0.coords t) (adjFill V c t (fun _ => Scalar.ofBits .f32 0#32))) from by
      unfold adjFill; rw [win0_1.cut_fill]]
    iintro H; iexists d1; iexact H
  have hscr : ∀ f : Buf (Elt F) ((c : Thread nD τ).loc cc0_scratch0), (((c : Thread nD τ).loc cc0_scratch0) ↦{fullShare} f : sProp 𝕄)
      ⊢ iprop(∃ d, owns (c : Thread nD τ) (Memref.whole cc0_scratch0) fullShare d) := fun f => by
    simp only [owns_whole_eq]
    iintro H; iexists _, f; isplitr; swap; (· iexact H); ipureintro; rfl
  by_cases ht : t.val = 0
  · rw [show Φ0 V c t.val = iprop((∃ f : Buf (Elt F) ((c : Thread nD τ).loc cc0_scratch0), ((c : Thread nD τ).loc cc0_scratch0) ↦{fullShare} f) ∗ rest0 c) from by rw [ht]; rfl]
    iintro ⟨⟨⟨%f, Hs⟩, Hr⟩, Ho, ⟨%d0, H0⟩, ⟨%d1, H1⟩, ⟨%d2, H2⟩, ⟨%d3, H3⟩, ⟨%d4, -, H4⟩, ⟨%d5, -, H5⟩⟩
    iapply (run0_first c (grid0.coords t) (st0_0 t) _ (st0_1 t) _ (st0_2 t) _ (st0_3 t) _ (st0_4 t) _ (st0_5 t) _ (Memref.whole cc0_scratch0) _
      ((atFirst0 t).mpr ht) (xBlk V c) (adjFill V c t d1) (w1Blk V c) (b1Blk V c) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iapply (hscr f); iexact Hs
    iintro ⟨H0, H1, H2, H3, H4, H5, Hs⟩
    isplitl [Hs Hr]
    · unfold Φ0; isplitl [Hs]; · iexact Hs
      iexact Hr
    isplitl [Ho]; · iexact Ho
    isplitl [H0]; · iexact H0
    isplitl [H1]; · iapply (hfill d1); iexact H1
    isplitl [H2]; · iexact H2
    isplitl [H3]; · iexact H3
    isplitl [H4]
    · iexists _; isplitr; swap; (· iexact H4); ipureintro; exact ⟨d1, rfl⟩
    iexists _; isplitr; swap; (· iexact H5); ipureintro; exact ⟨d1, rfl⟩
  · obtain ⟨n, hn⟩ := Nat.exists_eq_succ_of_ne_zero ht
    rw [show Φ0 V c t.val = iprop(owns (c : Thread nD τ) (Memref.whole cc0_scratch0) fullShare (s1 V c) ∗ rest0 c) from by rw [hn]; rfl]
    iintro ⟨⟨Hs, Hr⟩, Ho, ⟨%d0, H0⟩, ⟨%d1, H1⟩, ⟨%d2, H2⟩, ⟨%d3, H3⟩, ⟨%d4, -, H4⟩, ⟨%d5, -, H5⟩⟩
    iapply (run0_later c (grid0.coords t) (st0_0 t) _ (st0_1 t) _ (st0_2 t) _ (st0_3 t) _ (st0_4 t) _ (st0_5 t) _ (Memref.whole cc0_scratch0) _
      (fun h => ht ((atFirst0 t).mp h)) (adjFill V c t d1) (b1Blk V c) (s1 V c) _)
    isplitl [H1]; · iexact H1
    isplitl [H3]; · iexact H3
    isplitl [H4]; · iexists _; iexact H4
    isplitl [H5]; · iexists _; iexact H5
    isplitl [Hs]; · iexact Hs
    iintro ⟨H1, H3, H4, H5, Hs⟩
    isplitl [Hs Hr]
    · unfold Φ0; isplitl [Hs]; · iexact Hs
      iexact Hr
    isplitl [Ho]; · iexact Ho
    isplitl [H0]; · iexact H0
    isplitl [H1]; · iapply (hfill d1); iexact H1
    isplitl [H2]; · iexact H2
    isplitl [H3]; · iexact H3
    isplitl [H4]
    · iexists _; isplitr; swap; (· iexact H4); ipureintro; exact ⟨d1, rfl⟩
    iexists _; isplitr; swap; (· iexact H5); ipureintro; exact ⟨d1, rfl⟩

end Cert.KernelIdeal.Two

end
-- ==== Proof.Ideal.Seg0.lean ====
module

public import proofs.«01_k».proof.Proof.Ideal.Region0

/-!
  Pass 1's region over the thread state: every unscoped buffer at a valuation. It is left with the two results' arrays
  at some contents that the write-backs may have left, and everything else as it was.
-/

@[expose] public section

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ UU ℕ

/-- No core owes another anything: no level is assigned. -/
abbrev L : GSem nD τ sig → Finset Unit := fun _ => ∅
/-- All counters are at one level. -/
abbrev lv : GSem nD τ sig → Unit → ℕ := fun _ _ => 0

/-- The core owes nothing, whatever its waits have recorded. -/
abbrev idleC (c : Dev nD) : sProp 𝕄 := iprop(∃ W, owes (c : Thread nD τ) (0 : CellTallies nD τ sig Unit) W)

/-- A proof data for a pipeline this entry does not run: anything. -/
def spareDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

variable (V : Dev nD → Valuation τ sig (Elt F))

/-- The valuation read per reference. -/
abbrev byRef : VV F := fun c b => V c b

/-- The data of the first entry: pass 1's, and anything for pass 2. -/
def rdats : (p : Fin 2) → (c : Dev nD) → RDat τ (Elt F) Unit ℕ UU ℕ (Pipeline.pin (pcfgs (F := F)) adm p) c
  | ⟨0, _⟩ => fun c => rdat0 (byRef V) c
  | ⟨1, _⟩ => fun c => (spareDat c).toR

/-- The buffers after pass 1, its two results at `h` and `a`. -/
abbrev mid (c : Dev nD) (h : Buf (Elt F) ((c : Thread nD τ).loc main_v2_0)) (a : Buf (Elt F) ((c : Thread nD τ).loc main_v2_1)) : Valuation τ sig (Elt F) :=
  Function.update (Function.update (V c) main_v2_0 h) main_v2_1 a

/-- After pass 1 the first result holds what it left there. -/
theorem mid_h (c : Dev nD) (h : Buf (Elt F) ((c : Thread nD τ).loc main_v2_0)) (a : Buf (Elt F) ((c : Thread nD τ).loc main_v2_1)) : mid V c h a main_v2_0 = h := by
  unfold mid
  rw [Function.update_of_ne (StableHlo.devRef_ne_of_ne (by decide) : (Proc.devRef .tc main_v2_0 : DevRef τ sig) ≠ Proc.devRef .tc main_v2_1)]
  exact Function.update_self ..
/-- After pass 1 the second result holds what it left there. -/
theorem mid_a (c : Dev nD) (h : Buf (Elt F) ((c : Thread nD τ).loc main_v2_0)) (a : Buf (Elt F) ((c : Thread nD τ).loc main_v2_1)) : mid V c h a main_v2_1 = a :=
  Function.update_self ..
/-- Any other buffer is as before pass 1. -/
theorem mid_of (c : Dev nD) (h : Buf (Elt F) ((c : Thread nD τ).loc main_v2_0)) (a : Buf (Elt F) ((c : Thread nD τ).loc main_v2_1)) (b : Ref sig .tc)
    (h0 : b ≠ main_v2_0) (h1 : b ≠ main_v2_1) : mid V c h a b = V c b := by
  unfold mid
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

/-- What the two results' arrays may hold after pass 1. -/
def Left0 (c : Dev nD) (h : Buf (Elt F) ((c : Thread nD τ).loc main_v2_0)) (a : Buf (Elt F) ((c : Thread nD τ).loc main_v2_1)) : Prop :=
  (rdat0 (byRef V) c).ArrAt (4 : Fin 6) cfg0.N h ∧ (rdat0 (byRef V) c).ArrAt (5 : Fin 6) cfg0.N a

/-- The thread state between the passes. -/
def between (c : Dev nD) : sProp 𝕄 :=
  iprop(∃ h a, ⌜Left0 V c h a⌝ ∗ unscopedBufs c (fun b => mid V c h a b) ∗ idleC c)

/-- An input's array is as it was entered. -/
theorem arr_in {cfg : Cfg sig Λ₀} {c : Dev nD} (rd : RDat τ (Elt F) Unit ℕ UU ℕ cfg c) (w : Fin cfg.W) (hin : (cfg.win w).isOut = false) (n : ℕ)
    (G : Buf (Elt F) ((cfg.win w).arr.view.loc (c.tc : Thread nD τ))) (h : rd.ArrAt w n G) : G = rd.A w := by
  rw [rd.ArrAt_in w hin n] at h; exact h

/-- The arrays after the last write-back, opened: some contents for each window. -/
theorem arrays_some (c : Dev nD) : ((rdat0 (byRef V) c).arraysAt cfg0.N : sProp 𝕄)
    ⊢ iprop(∃ A, ⌜∀ w, (rdat0 (byRef V) c).ArrAt w cfg0.N (A w)⌝ ∗ (dat0 (byRef V) c).arrays A) := by
  unfold RDat.arraysAt
  iintro Ha
  ihave Ha' := (BI.bigSep_exists_pi Finset.univ (fun w G => iprop(⌜(rdat0 (byRef V) c).ArrAt w cfg0.N G⌝
      ∗ ((cfg0.win w).arr.view.loc (c.tc : Thread nD τ) ↦[(cfg0.win w).arr.view.set]{(rdat0 (byRef V) c).share w} G)))) $$ Ha
  icases Ha' with ⟨%A, Ha⟩
  ihave Ha2 := (BI.bigSep_pure_sep Finset.univ (fun w => (rdat0 (byRef V) c).ArrAt w cfg0.N (A w))
      (fun w => ((cfg0.win w).arr.view.loc (c.tc : Thread nD τ) ↦[(cfg0.win w).arr.view.set]{(rdat0 (byRef V) c).share w} A w))) $$ Ha
  icases Ha2 with ⟨%hA', Ha⟩
  iexists A; isplitr; · ipureintro; exact fun w => hA' w (Finset.mem_univ w)
  unfold Dat.arrays
  iexact Ha

/-- The invariant after some point gives the scoped buffers back. -/
theorem Φ0_later (V : VV F) (c : Dev nD) (n : ℕ) :
    Φ0 V c (n + 1) ⊢ (Pipeline.scopedRest (Ix := Unit) (Name := ℕ) (U := UU) (Lvl := ℕ) (Val := Elt F) spec0 c : sProp 𝕄) := by
  rw [scoped0]
  unfold Φ0
  simp only [owns_whole_eq]
  iintro ⟨⟨%f, -, Hs⟩, Hr⟩
  isplitl [Hs]; · iexists f; iexact Hs
  iexact Hr

set_option backward.isDefEq.respectTransparency.types false in
/-- Pass 1 as a region of the program, whatever rides along (`R`) left alone. -/
def reg0 (R : Dev nD → sProp 𝕄) : RDat.RegionSeg (pcfgs (F := F)) adm (rdats V) () defs₀ Variants.none L lv 0 where
  win := launch0.win.to₀
  block_pos := launch0.block_pos
  stage_whole := launch0.stage_whole
  K := PEmpty
  osem k := k.elim
  ho := Pipeline.OwnSemFacts.none _
  hbody c := (body0 (byRef V) c).toRRel
  hwaits c := RDat.hwaits_of_owed_zero _ _ _ _ L lv 0 (fun _ _ => rfl) c
  pre c := iprop(unscopedBufs c (fun b => V c b) ∗ idleC c ∗ R c)
  post c := iprop(between V c ∗ R c)
  X _ := BI.emp
  Y _ := BI.emp
  Z c := iprop(Pipeline.unscopedRest (Ix := Unit) (Name := ℕ) (U := UU) (Lvl := ℕ) spec0 c (fun b => V c b) ∗ R c)
  hentry c := by
    rw [Pipeline.ownSems0_none]
    have hsplit := RDat.arrays_of_unscopedBufs (p := 0) (pcfgs (F := F)) adm (rdats V) launch0.win launch0.arr_whole c
      ((dat0 (byRef V) c).share_full fun _ => rfl) (fun b => V c b) fun _ => rfl
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest]; · iexact Hrest
    iexact HR
  hin c := by
    rw [show (rdats V 0 c).Φ 0 = Φ0 (byRef V) c 0 from rfl]
    have e : (Pipeline.scopedRest (Pipeline.pin (pcfgs (F := F)) adm 0).spec c : sProp 𝕄) ⊢ Φ0 (byRef V) c 0 := Entails.of_eq (scoped0 c)
    iintro ⟨-, -, Hr⟩; iapply e; iexact Hr
  hout c := by
    rw [Pipeline.ownSems0_none, show (rdats V 0 c).Φ (Fin.last _) = Φ0 (byRef V) c 20 from rfl]
    iintro Hr
    isplitr; · iempintro
    isplitr; · iempintro
    iapply (Φ0_later (byRef V) c 19); iexact Hr
  hexit c := by
    have hjoin : ∀ A : (w : Fin cfg0.W) → Buf (Elt F) ((cfg0.win w).arr.view.loc (c.tc : Thread nD τ)), (∀ w, (rdat0 (byRef V) c).ArrAt w cfg0.N (A w)) →
        iprop((dat0 (byRef V) c).arrays A ∗ Pipeline.unscopedRest (Ix := Unit) (Name := ℕ) (U := UU) (Lvl := ℕ) spec0 c (fun b => V c b))
          ⊢ (unscopedBufs c (fun b => mid V c (A (4 : Fin 6)) (A (5 : Fin 6)) b) : sProp 𝕄) := fun A hA =>
      Pipeline.unscopedBufs_of_arrays (p := 0) (pcfgs (F := F)) adm (Ix := Unit) (Name := ℕ) (U := UU) (Lvl := ℕ) launch0.win launch0.arr_whole c
        (fun p c => match p with | ⟨0, _⟩ => dat0 (byRef V) c | ⟨1, _⟩ => spareDat c) ((dat0 (byRef V) c).share_full fun _ => rfl) (fun b => V c b) (fun b => mid V c (A (4 : Fin 6)) (A (5 : Fin 6)) b) A
        (fun w => by
          fin_cases w
          · exact (arr_in (rdat0 (byRef V) c) (0 : Fin 6) rfl _ _ (hA (0 : Fin 6))).trans (mid_of V c _ _ main_arg0 (by decide) (by decide)).symm
          · exact (arr_in (rdat0 (byRef V) c) (1 : Fin 6) rfl _ _ (hA (1 : Fin 6))).trans (mid_of V c _ _ main_arg1 (by decide) (by decide)).symm
          · exact (arr_in (rdat0 (byRef V) c) (2 : Fin 6) rfl _ _ (hA (2 : Fin 6))).trans (mid_of V c _ _ main_arg2 (by decide) (by decide)).symm
          · exact (arr_in (rdat0 (byRef V) c) (3 : Fin 6) rfl _ _ (hA (3 : Fin 6))).trans (mid_of V c _ _ main_v0 (by decide) (by decide)).symm
          · exact (mid_h V c (A (4 : Fin 6)) (A (5 : Fin 6))).symm
          · exact (mid_a V c (A (4 : Fin 6)) (A (5 : Fin 6))).symm)
        (fun b hb => mid_of V c _ _ b (fun h => hb (h ▸ Finset.mem_image.mpr ⟨4, Finset.mem_univ _, rfl⟩)) (fun h => hb (h ▸ Finset.mem_image.mpr ⟨5, Finset.mem_univ _, rfl⟩)))
    have hsome : ((rdats V 0 c).arraysAt (Pipeline.pin (pcfgs (F := F)) adm 0).N : sProp 𝕄)
      ⊢ iprop(∃ A, ⌜∀ w, (rdat0 (byRef V) c).ArrAt w cfg0.N (A w)⌝ ∗ (dat0 (byRef V) c).arrays A) := arrays_some V c
    iintro ⟨Ha, HO, -, Hrest, HR⟩
    ihave Ha' := hsome $$ Ha
    icases Ha' with ⟨%A, %hA, Ha⟩
    imodintro
    isplitr [HR]; swap; · iexact HR
    unfold between
    iexists (A (4 : Fin 6)), (A (5 : Fin 6))
    isplitr; · ipureintro; exact ⟨hA 4, hA 5⟩
    isplitl [Ha Hrest]
    · iapply (hjoin A hA); isplitl [Ha] <;> iassumption
    unfold Pipeline.RDat.owesAt Pipeline.owesWithin
    icases HO with ⟨%W, -, HO⟩; iexists W; iexact HO

end Cert.KernelIdeal.Two

end
-- ==== Proof.Ideal.Region1.lean ====
module

public import proofs.«01_k».proof.Proof.Ideal.Seg0
public import Idealize.ShloMosaic.Lib.Pipeline.RegionsLoop
public import Idealize.ShloMosaic.Lib.Pipeline.FrameBody

/-!
  Pass 2 as a region of the program. Its blocks of quantised rows tile their array, so the body leaves in its result
  exactly its payload at the fetched block; only the write-back of the last block is cut.
-/

@[expose] public section

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ UU ℕ

variable (V : VV F)

/-! ## The proof data -/

/-- The block of quantised rows at point `t`. -/
def qBlk (c : Dev nD) (t : Fin cfg1.N) : S1280x10000.Idx → Elt F .i4 := (win1_0.blk t).view.read (Elt F) (V c main_v2_1)

/-- The first grid point. -/
abbrev r0 : Fin grid1.N := ⟨0, by decide⟩

/-- The hidden layer and the second weights as staged, and the second bias as the host reshaped it. -/
def hBlk (c : Dev nD) : S10000x8.Idx → Elt F .f32 := (win1_1.blk r0).view.read (Elt F) (V c main_v2_0)
/-- The second weights as staged. -/
def w2Blk (c : Dev nD) : S8x40.Idx → Elt F .f32 := (win1_2.blk r0).view.read (Elt F) (V c main_arg4)
/-- The second bias as staged. -/
def b2Blk (c : Dev nD) : S1x40.Idx → Elt F .f32 := (win1_3.blk r0).view.read (Elt F) (V c main_v1)

/-- What the two scratch buffers hold from the first point on. -/
def s2 (c : Dev nD) : S10000x40.Idx → Elt F .bf16 := k1_pay3 (hBlk V c) (w2Blk V c)
/-- The offset's part of the logits. -/
def cc (c : Dev nD) : S1x40.Idx → Elt F .f32 := k1_pay2 (hBlk V c) (w2Blk V c)

/-- What the body leaves in its result at point `t`. -/
def outBlk (c : Dev nD) (t : Fin cfg1.N) : S1280x40.Idx → Elt F .f32 :=
  k1_pay4 (upper (qBlk V c t)) (s2 V c) (lower (qBlk V c t)) (s2 V c) (cc V c) (b2Blk V c)

/-- The scoped buffers pass 2 does not touch. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f))

/-- The two scratch buffers at anything. -/
def scr1 (c : Dev nD) : sProp 𝕄 :=
  iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers, pass 2's scratch apart. -/
theorem scoped1_open (c : Dev nD) :
    (Pipeline.scopedRest (Ix := Unit) (Name := ℕ) (U := UU) (Lvl := ℕ) (Val := Elt F) spec1 c : sProp 𝕄) ⊢ iprop(scr1 c ∗ rest1 c) := by
  rw [scopedRest1_eq]
  unfold scr1 rest1
  iintro ⟨H0, H1, H2, H3, H4, H5, H6, H7, H8, H9, H10, H11⟩
  isplitl [H10 H11]
  · isplitl [H10] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- And put together again. -/
theorem scoped1_close (c : Dev nD) :
    iprop(scr1 c ∗ rest1 c) ⊢ (Pipeline.scopedRest (Ix := Unit) (Name := ℕ) (U := UU) (Lvl := ℕ) (Val := Elt F) spec1 c : sProp 𝕄) := by
  rw [scopedRest1_eq]
  unfold scr1 rest1
  iintro ⟨⟨H10, H11⟩, H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The invariant before point `n`: at the first point the scratch buffers at anything, afterwards as set there. -/
def Φ1 (c : Dev nD) : ℕ → sProp 𝕄
  | 0 => iprop(scr1 c ∗ rest1 c)
  | _ + 1 => iprop((owns (c : Thread nD τ) (Memref.whole cc1_scratch0) fullShare (s2 V c) ∗ owns (c : Thread nD τ) (Memref.whole cc1_scratch1) fullShare (cc V c)) ∗ rest1 c)

/-- The proof data of pass 2 entered at the valuation `V`. -/
def dat1 (c : Dev nD) : Dat τ (Elt F) Unit ℕ UU ℕ cfg1 c where
  A w := V c (Pipeline.arrRef spec1 w)
  after w t := match w with
    | ⟨0, _⟩ => qBlk V c t
    | ⟨1, _⟩ => hBlk V c
    | ⟨2, _⟩ => w2Blk V c
    | ⟨3, _⟩ => b2Blk V c
    | ⟨4, _⟩ => outBlk V c t
  Φ t := Φ1 V c t.val
  q _ := fullShare
  owed _ := 0

/-! ## The body obligation -/

/-- At point `t` the body finds its block of levels. -/
theorem before1_0 (c : Dev nD) (t : Fin cfg1.N) (d) : (dat1 V c).before (0 : Fin 5) t d = qBlk V c t := by
  unfold Dat.before; rw [if_pos (fetch1_0 t)]; rfl
/-- At every point the body finds the hidden layer. -/
theorem before1_1 (c : Dev nD) (t : Fin cfg1.N) (d) : (dat1 V c).before (1 : Fin 5) t d = hBlk V c :=
  (dat1 V c).before_in_eq_fetched (1 : Fin 5) rfl (fun _ => rfl) (fun _ _ _ => rfl) (fun _ => rfl) t d
/-- At every point the body finds the second weights. -/
theorem before1_2 (c : Dev nD) (t : Fin cfg1.N) (d) : (dat1 V c).before (2 : Fin 5) t d = w2Blk V c :=
  (dat1 V c).before_in_eq_fetched (2 : Fin 5) rfl (fun _ => rfl) (fun _ _ _ => rfl) (fun _ => rfl) t d
/-- At every point the body finds the second bias. -/
theorem before1_3 (c : Dev nD) (t : Fin cfg1.N) (d) : (dat1 V c).before (3 : Fin 5) t d = b2Blk V c :=
  (dat1 V c).before_in_eq_fetched (3 : Fin 5) rfl (fun _ => rfl) (fun _ _ _ => rfl) (fun _ => rfl) t d

/-- The branch's condition at point `t`: the first point only. -/
theorem atFirst1 : ∀ t : Fin grid1.N, atFirst (grid1.coords t 0).val ↔ t.val = 0 := by decide +kernel

/-- The body at point `t` is the called function's. -/
theorem defs₀_row1 (t : Fin cfg1.N) : defs₀ (F := F) .tc cfg1.body (cfg1.bodyArgs t (cfg1.slots t)) = bodyAt1 t := by
  unfold defs₀; rw [Defs.onTc_tc]

/-- Pass 2's body leaves its payload at every point. -/
theorem body1 (c : Dev nD) : BodyObligationLoose (dat1 V c) (defs₀ (F := F)) Variants.none () Set.univ := fun t => by
  rw [defs₀_row1, bigSep_W1, bigSep_W1]
  show iprop(Φ1 V c t.val ∗ (dat1 V c).owesAt () t.castSucc ∗ (∃ d, owns (c : Thread nD τ) (st1_0 t) fullShare ((dat1 V c).before (0 : Fin 5) t d))
      ∗ (∃ d, owns (c : Thread nD τ) (st1_1 t) fullShare ((dat1 V c).before (1 : Fin 5) t d))
      ∗ (∃ d, owns (c : Thread nD τ) (st1_2 t) fullShare ((dat1 V c).before (2 : Fin 5) t d))
      ∗ (∃ d, owns (c : Thread nD τ) (st1_3 t) fullShare ((dat1 V c).before (3 : Fin 5) t d))
      ∗ (∃ d, owns (c : Thread nD τ) (st1_4 t) fullShare ((dat1 V c).before (4 : Fin 5) t d)))
    ⊢ wp frame (wpE (defs₀ (F := F)) Variants.none c none) Set.univ (bodyAt1 t) fun _ =>
      iprop(Φ1 V c (t.val + 1) ∗ (dat1 V c).owesAt () t.castSucc ∗ owns (c : Thread nD τ) (st1_0 t) fullShare (qBlk V c t)
        ∗ owns (c : Thread nD τ) (st1_1 t) fullShare (hBlk V c)
        ∗ owns (c : Thread nD τ) (st1_2 t) fullShare (w2Blk V c)
        ∗ owns (c : Thread nD τ) (st1_3 t) fullShare (b2Blk V c)
        ∗ (∃ d, owns (c : Thread nD τ) (st1_4 t) fullShare (win1_4.fill (grid1.coords t) d (win1_4.cut (grid1.coords t) (outBlk V c t)))))
  simp only [before1_0, before1_1, before1_2, before1_3]
  have hfill : (owns (c : Thread nD τ) (st1_4 t) fullShare (outBlk V c t) : sProp 𝕄) ⊢ iprop(∃ d, owns (c : Thread nD τ) (st1_4 t) fullShare
      (win1_4.fill (grid1.coords t) d (win1_4.cut (grid1.coords t) (outBlk V c t)))) := by
    iintro H; iexists (outBlk V c t); rw [win1_4.fill_cut]; iexact H
  have hscr0 : ∀ f : Buf (Elt F) ((c : Thread nD τ).loc cc1_scratch0), (((c : Thread nD τ).loc cc1_scratch0) ↦{fullShare} f : sProp 𝕄)
      ⊢ iprop(∃ d, owns (c : Thread nD τ) (Memref.whole cc1_scratch0) fullShare d) := fun f => by
    simp only [owns_whole_eq]
    iintro H; iexists _, f; isplitr; swap; (· iexact H); ipureintro; rfl
  have hscr1 : ∀ f : Buf (Elt F) ((c : Thread nD τ).loc cc1_scratch1), (((c : Thread nD τ).loc cc1_scratch1) ↦{fullShare} f : sProp 𝕄)
      ⊢ iprop(∃ d, owns (c : Thread nD τ) (Memref.whole cc1_scratch1) fullShare d) := fun f => by
    simp only [owns_whole_eq]
    iintro H; iexists _, f; isplitr; swap; (· iexact H); ipureintro; rfl
  by_cases ht : t.val = 0
  · rw [show Φ1 V c t.val = iprop(scr1 c ∗ rest1 c) from by rw [ht]; rfl]
    unfold scr1
    iintro ⟨⟨⟨⟨%f, Hs⟩, ⟨%g, Hc⟩⟩, Hr⟩, Ho, ⟨%d0, H0⟩, ⟨%d1, H1⟩, ⟨%d2, H2⟩, ⟨%d3, H3⟩, ⟨%d4, H4⟩⟩
    iapply (run1_first c (grid1.coords t) (st1_0 t) _ (st1_1 t) _ (st1_2 t) _ (st1_3 t) _ (st1_4 t) _ (Memref.whole cc1_scratch0) _ (Memref.whole cc1_scratch1) _
      ((atFirst1 t).mpr ht) (qBlk V c t) (hBlk V c) (w2Blk V c) (b2Blk V c) _)
    isplitl [H0]; · iexact H0
    isplitl [H1]; · iexact H1
    isplitl [H2]; · iexact H2
    isplitl [H3]; · iexact H3
    isplitl [H4]; · iexists _; iexact H4
    isplitl [Hs]; · iapply (hscr0 f); iexact Hs
    isplitl [Hc]; · iapply (hscr1 g); iexact Hc
    iintro ⟨H0, H1, H2, H3, H4, Hs, Hc⟩
    isplitl [Hs Hc Hr]
    · unfold Φ1
      isplitl [Hs Hc]
      · isplitl [Hs]; · iexact Hs
        iexact Hc
      iexact Hr
    isplitl [Ho]; · iexact Ho
    isplitl [H0]; · iexact H0
    isplitl [H1]; · iexact H1
    isplitl [H2]; · iexact H2
    isplitl [H3]; · iexact H3
    iapply hfill; iexact H4
  · obtain ⟨n, hn⟩ := Nat.exists_eq_succ_of_ne_zero ht
    rw [show Φ1 V c t.val = iprop((owns (c : Thread nD τ) (Memref.whole cc1_scratch0) fullShare (s2 V c) ∗ owns (c : Thread nD τ) (Memref.whole cc1_scratch1) fullShare (cc V c)) ∗ rest1 c) from by rw [hn]; rfl]
    iintro ⟨⟨⟨Hs, Hc⟩, Hr⟩, Ho, ⟨%d0, H0⟩, ⟨%d1, H1⟩, ⟨%d2, H2⟩, ⟨%d3, H3⟩, ⟨%d4, H4⟩⟩
    iapply (run1_later c (grid1.coords t) (st1_0 t) _ (st1_1 t) _ (st1_2 t) _ (st1_3 t) _ (st1_4 t) _ (Memref.whole cc1_scratch0) _ (Memref.whole cc1_scratch1) _
      (fun h => ht ((atFirst1 t).mp h)) (qBlk V c t) (b2Blk V c) (s2 V c) (cc V c) _)
    isplitl [H0]; · iexact H0
    isplitl [H3]; · iexact H3
    isplitl [H4]; · iexists _; iexact H4
    isplitl [Hs]; · iexact Hs
    isplitl [Hc]; · iexact Hc
    iintro ⟨H0, H3, H4, Hs, Hc⟩
    isplitl [Hs Hc Hr]
    · unfold Φ1
      isplitl [Hs Hc]
      · isplitl [Hs]; · iexact Hs
        iexact Hc
      iexact Hr
    isplitl [Ho]; · iexact Ho
    isplitl [H0]; · iexact H0
    isplitl [H1]; · iexact H1
    isplitl [H2]; · iexact H2
    isplitl [H3]; · iexact H3
    iapply hfill; iexact H4

end Cert.KernelIdeal.Two

end
-- ==== Proof.Ideal.Seg1.lean ====
module

public import proofs.«01_k».proof.Proof.Ideal.Region1

/-!
  Pass 2's region over the thread state, and the segment of the program it makes: entered from whatever pass 1 may
  have left, with its own copy of the pipelines' ghost state.
-/

@[expose] public section

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ UU ℕ

/-- The data of the second entry: pass 2's, and anything for pass 1. -/
def pdats (W : Dev nD → Valuation τ sig (Elt F)) : (p : Fin 2) → (c : Dev nD) → Dat τ (Elt F) Unit ℕ UU ℕ (Pipeline.pin (pcfgs (F := F)) adm p) c
  | ⟨0, _⟩ => fun c => spareDat c
  | ⟨1, _⟩ => fun c => dat1 (byRef W) c

/-- What pass 2 leaves in the result's array. -/
def out1 (W : Dev nD → Valuation τ sig (Elt F)) (c : Dev nD) : Buf (Elt F) ((c : Thread nD τ).loc main_v3) := (dat1 (byRef W) c).arrAt (4 : Fin 5) cfg1.N

/-- The buffers after pass 2. -/
abbrev fin1 (W : Dev nD → Valuation τ sig (Elt F)) (c : Dev nD) : Valuation τ sig (Elt F) := Function.update (W c) main_v3 (out1 W c)

/-- After pass 2 the result holds what its write-backs leave. -/
theorem fin1_out (W : Dev nD → Valuation τ sig (Elt F)) (c : Dev nD) : fin1 W c main_v3 = out1 W c := Function.update_self ..
/-- Any other buffer is as before pass 2. -/
theorem fin1_of (W : Dev nD → Valuation τ sig (Elt F)) (c : Dev nD) (b : Ref sig .tc) (h : b ≠ main_v3) : fin1 W c b = W c b := by
  unfold fin1
  rw [Function.update_of_ne (StableHlo.devRef_ne_of_ne h : (Proc.devRef .tc b : DevRef τ sig) ≠ Proc.devRef .tc main_v3)]

/-- From the second point on the invariant is one. -/
theorem Φ1_later (V : VV F) (c : Dev nD) (n : ℕ) :
    Φ1 V c (n + 1) ⊢ (Pipeline.scopedRest (Ix := Unit) (Name := ℕ) (U := UU) (Lvl := ℕ) (Val := Elt F) spec1 c : sProp 𝕄) := by
  refine BIBase.Entails.trans ?_ (scoped1_close c)
  unfold Φ1 scr1
  simp only [owns_whole_eq]
  iintro ⟨⟨⟨%f, -, Hs⟩, ⟨%g, -, Hc⟩⟩, Hr⟩
  isplitl [Hs Hc]
  · isplitl [Hs]; · iexists f; iexact Hs
    iexists g; iexact Hc
  iexact Hr

set_option backward.isDefEq.respectTransparency.types false in
/-- Pass 2 as a region of the program. -/
def reg1 (W : Dev nD → Valuation τ sig (Elt F)) : Pipeline.RegionSeg (pcfgs (F := F)) adm (pdats W) () defs₀ Variants.none L lv 1 where
  win := launch1.win.to₀
  block_pos := launch1.block_pos
  stage_whole := launch1.stage_whole
  K := PEmpty
  osem k := k.elim
  ho := Pipeline.OwnSemFacts.none _
  hbody c := body1 (byRef W) c
  hwaits := Pipeline.hwaits_of_owed_zero _ _ _ _ L lv 1 fun _ _ => rfl
  pre c := iprop(unscopedBufs c (fun b => W c b) ∗ idleC c)
  post c := iprop(unscopedBufs c (fun b => fin1 W c b) ∗ idleC c)
  X _ := BI.emp
  Y _ := BI.emp
  Z c := Pipeline.unscopedRest (Ix := Unit) (Name := ℕ) (U := UU) (Lvl := ℕ) spec1 c (fun b => W c b)
  hentry c := by
    rw [Pipeline.ownSems0_none]
    have hsplit := Pipeline.arrays_of_unscopedBufs (p := 1) (pcfgs (F := F)) adm (pdats W) launch1.win launch1.arr_whole c
      ((dat1 (byRef W) c).share_full fun _ => rfl) (fun b => W c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats W 1 c).Φ 0 = Φ1 (byRef W) c 0 from rfl]
    have e : (Pipeline.scopedRest (Pipeline.pin (pcfgs (F := F)) adm 1).spec c : sProp 𝕄) ⊢ Φ1 (byRef W) c 0 := scoped1_open c
    iintro ⟨-, -, Hr⟩; iapply e; iexact Hr
  hout c := by
    rw [Pipeline.ownSems0_none, show (pdats W 1 c).Φ (Fin.last _) = Φ1 (byRef W) c 8 from rfl]
    iintro Hr
    isplitr; · iempintro
    isplitr; · iempintro
    iapply (Φ1_later (byRef W) c 7); iexact Hr
  hexit c := by
    have hjoin := Pipeline.unscopedBufs_of_arrays (p := 1) (pcfgs (F := F)) adm (Ix := Unit) (Name := ℕ) (U := UU) (Lvl := ℕ) launch1.win launch1.arr_whole c
      (pdats W) ((dat1 (byRef W) c).share_full fun _ => rfl) (fun b => W c b) (fun b => fin1 W c b) ((pdats W 1 c).arrAt · cfg1.N)
      (fun w => by
        fin_cases w
        · exact ((dat1 (byRef W) c).arrAt_in (0 : Fin 5) rfl _).trans (fin1_of W c main_v2_1 (by decide)).symm
        · exact ((dat1 (byRef W) c).arrAt_in (1 : Fin 5) rfl _).trans (fin1_of W c main_v2_0 (by decide)).symm
        · exact ((dat1 (byRef W) c).arrAt_in (2 : Fin 5) rfl _).trans (fin1_of W c main_arg4 (by decide)).symm
        · exact ((dat1 (byRef W) c).arrAt_in (3 : Fin 5) rfl _).trans (fin1_of W c main_v1 (by decide)).symm
        · exact (fin1_out W c).symm)
      (fun b hb => fin1_of W c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

/-! ## The segment -/

/-- The two copies of the pipelines' ghost state, embedded. -/
abbrev EP1 : Emb (URounds (GSem nD τ sig) Unit) 𝕄 := embL
/-- The second copy of the ghost state. -/
abbrev EP2 : Emb (URounds (GSem nD τ sig) Unit) 𝕄 := embR

/-- Pass 2's share of the second copy. -/
def ghost1 (c : Dev nD) : sProp 𝕄 :=
  iprop(Pipeline.cellsGhost (Pipeline.pin (pcfgs (F := F)) adm) (EP2 (F := F)) 1 c ∗ Pipeline.toksInit (Pipeline.pin (pcfgs (F := F)) adm) (EP2 (F := F)) 1 c)

variable (V : Dev nD → Valuation τ sig (Elt F))

/-- The state after both passes. -/
def done (c : Dev nD) : sProp 𝕄 :=
  iprop(∃ h a, ⌜Left0 V c h a⌝ ∗ unscopedBufs c (fun b => fin1 (fun c' => mid V c' h a) c b))

/-- Pass 2 as a segment: entered from whatever pass 1 may have left. -/
def segPass2 : Pipeline.HostSeg (Ix := Unit) (Name := ℕ) (U := UU) (Lvl := ℕ) (pcfgs (F := F)) defs₀ Variants.none L lv where
  prog := Prog.lift (.customCall (Pipeline.entry 1) ())
  pre c := iprop(between V c ∗ ghost1 c)
  post c := iprop(done V c ∗ idleC c)
  run c {β} k K := by
    rw [show (Prog.lift (.customCall (Pipeline.entry 1) ()) >>= k : Prog (TpuEff nD τ sig (Elt F) (Pipeline.Sig Λ₀ (Fin 2) fun p => (pcfgs (F := F) p).Adm) .tc) β)
        = .op (.customCall (Pipeline.entry 1) ()) k from rfl]
    unfold between ghost1
    iintro ⟨Hk, Hbd, ⟨⟨%h, %a, %hl, Hub, HO⟩, Hg, Ht⟩, Hla⟩
    iapply ((reg1 (fun c' => mid V c' h a)).wp (pcfgs (F := F)) adm _ () cellOf_inj (EP2 (F := F)) defs₀ Variants.none L lv c none (fun _ hu => nomatch hu) k K)
    isplitl [Hk]
    · iintro ⟨Hbd, Hpost⟩
      iapply Hk
      isplitl [Hbd]; · iexact Hbd
      have e : (reg1 (F := F) (fun c' => mid V c' h a)).post c ⊢ (iprop(unscopedBufs c (fun b => fin1 (fun c' => mid V c' h a) c b) ∗ idleC c) : sProp 𝕄) := .rfl
      ihave Hp := e $$ Hpost
      icases Hp with ⟨Hub, HO⟩
      isplitr [HO]; swap; · iexact HO
      unfold done
      iexists h, a
      isplitr; · ipureintro; exact hl
      iexact Hub
    isplitl [Hbd]; · iexact Hbd
    isplitl [Hub HO]
    · iapply (show (iprop(unscopedBufs c (fun b => mid V c h a b) ∗ idleC c) : sProp 𝕄) ⊢ (reg1 (F := F) (fun c' => mid V c' h a)).pre c from .rfl)
      isplitl [Hub] <;> iassumption
    isplitl [Hla]; · iexact Hla
    isplitl [Hg] <;> iassumption

end Cert.KernelIdeal.Two

end
-- ==== Proof.Ideal.Run.lean ====
module

public import proofs.«01_k».proof.Proof.Ideal.Seg1

/-!
  The whole program's run: the host's reshapes, pass 1, pass 2. Some contents of pass 1's two results, one of those its
  write-backs may leave, give the result pass 2 leaves; the arguments end as launched and no semaphore is left raised.
-/

@[expose] public section

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ UU ℕ

variable (m : (ℓ : Loc nD τ sig) → Buf (Elt F) ℓ)

/-- What a core holds beside its buffers before each item: nothing owed, and pass 2's ghost state. -/
def riding (_ : Fin 3) (c : Dev nD) : sProp 𝕄 := iprop(idleC c ∗ ghost1 (F := F) c)

/-- The program as segments. -/
abbrev parts (c : Dev nD) : List (RDat.Seg (pcfgs (F := F)) adm (rdats (V1 m)) () defs₀ Variants.none L lv) :=
  [.host (seg0 m Variants.none L lv riding), .region (reg0 (V1 m) (ghost1 (F := F))), .host (segPass2 (V1 m))]

/-- An argument (any buffer no item writes) at the end. -/
theorem end_arg (c : Dev nD) (x : Buf (Elt F) ((c : Thread nD τ).loc main_v2_0)) (a : Buf (Elt F) ((c : Thread nD τ).loc main_v2_1)) (b : Ref sig .tc)
    (hb : b ∉ hostOps0_W ∧ b ≠ main_v2_0 ∧ b ≠ main_v2_1 ∧ b ≠ main_v3) :
    fin1 (fun c' => mid (V1 m) c' x a) c b = m ((c : Thread nD τ).loc b) :=
  (fin1_of _ c b hb.2.2.2).trans <| (mid_of (V1 m) c x a b hb.2.1 hb.2.2.1).trans <| (V1_of m c b hb.1).trans rfl

/-- A buffer that is not scoped is among the launch's. -/
theorem mem_uc (b : Ref sig .tc) (h : (Proc.devRef .tc b : DevRef τ sig).isScoped = false) :
    (Proc.devRef .tc b : DevRef τ sig) ∈ Pipeline.ucRefs τ sig :=
  Finset.mem_filter.mpr ⟨StableHlo.devRef_mem_tcRefs b, by simpa using h⟩

/-- What the end of a run looks like on core `c`. -/
def Ends (c : Dev nD) (r : MemSt nD τ sig (Elt F)) : Prop :=
  (∃ x a, Left0 (V1 m) c x a ∧ r.mem ((c.tc : Thread nD τ).loc main_v3) = out1 (fun c' => mid (V1 m) c' x a) c)
      ∧ r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)

/-- The two copies of the ghost state, funded at launch: the first whole, of the second pass 2's share. -/
theorem funded :
    (ownU ((initOf (Pipeline.cells (Pipeline.pin (pcfgs (F := F)) adm) cellOf_inj) (Pipeline.launchToks (Pipeline.pin (pcfgs (F := F)) adm) cellOf_inj),
        initOf (Pipeline.cells (Pipeline.pin (pcfgs (F := F)) adm) cellOf_inj) (Pipeline.launchToks (Pipeline.pin (pcfgs (F := F)) adm) cellOf_inj)) : UU) : sProp 𝕄)
      ⊢ |={Set.univ}=> iprop(BI.own ((EP1 (F := F)) (initOf (Pipeline.cells (Pipeline.pin (pcfgs (F := F)) adm) cellOf_inj) (Pipeline.launchToks (Pipeline.pin (pcfgs (F := F)) adm) cellOf_inj)))
        ∗ bigSep Finset.univ (ghost1 (F := F))) := by
  have hg := Pipeline.fund_ghost (Pipeline.pin (pcfgs (F := F)) adm) (EP2 (F := F)) cellOf_inj
  have hpick : (iprop((bigSep Finset.univ fun c : Dev nD => bigSep Finset.univ fun p => Pipeline.cellsGhost (Pipeline.pin (pcfgs (F := F)) adm) (EP2 (F := F)) p c)
      ∗ (bigSep Finset.univ fun c : Dev nD => bigSep Finset.univ fun p => Pipeline.toksInit (Pipeline.pin (pcfgs (F := F)) adm) (EP2 (F := F)) p c)) : sProp 𝕄)
      ⊢ bigSep Finset.univ (ghost1 (F := F)) := by
    rw [← bigSep_sep']
    refine bigSep_mono fun c _ => ?_
    have hc : (bigSep Finset.univ fun p => Pipeline.cellsGhost (Pipeline.pin (pcfgs (F := F)) adm) (EP2 (F := F)) p c : sProp 𝕄)
        ⊢ iprop(Pipeline.cellsGhost (Pipeline.pin (pcfgs (F := F)) adm) (EP2 (F := F)) 1 c
          ∗ bigSep (Finset.univ.erase 1) fun p => Pipeline.cellsGhost (Pipeline.pin (pcfgs (F := F)) adm) (EP2 (F := F)) p c)  := by
      rw [bigSep_erase (Finset.mem_univ (1 : Fin 2))]; exact .rfl
    have ht : (bigSep Finset.univ fun p => Pipeline.toksInit (Pipeline.pin (pcfgs (F := F)) adm) (EP2 (F := F)) p c : sProp 𝕄)
        ⊢ iprop(Pipeline.toksInit (Pipeline.pin (pcfgs (F := F)) adm) (EP2 (F := F)) 1 c
          ∗ bigSep (Finset.univ.erase 1) fun p => Pipeline.toksInit (Pipeline.pin (pcfgs (F := F)) adm) (EP2 (F := F)) p c)  := by
      rw [bigSep_erase (Finset.mem_univ (1 : Fin 2))]; exact .rfl
    unfold ghost1
    refine (?_ : BIBase.Entails (PROP := sProp 𝕄) _ _)
    iintro ⟨Ha, Hb⟩
    ihave Ha := hc $$ Ha
    ihave Hb := ht $$ Hb
    icases Ha with ⟨Ha, -⟩
    icases Hb with ⟨Hb, -⟩
    isplitl [Ha] <;> iassumption
  iintro H
  ihave H := (ownU_pair _ _) $$ H
  icases H with ⟨H1, H2⟩
  ihave H2 := hg $$ H2
  imod H2 with H2
  imodintro
  isplitl [H1]; · iexact H1
  iapply hpick; iexact H2

set_option backward.isDefEq.respectTransparency.types false in
/-- The run. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine RDat.θ_run_regions_kit_dev_sems (pcfgs (F := F)) adm (rdats (V1 m)) () cellOf_inj (EP1 (F := F)) defs₀ Variants.none L lv m ρ main
    (parts m)
    (fun c Q => by
      rewrite [main_chain c, RDat.Seg.run_eq_chain,
        show (parts m c).map RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [RDat.Seg.pipes_host, RDat.Seg.pipes_region, RDat.Seg.pipes_nil]; decide) (fun _ => 0) (fun _ _ => rfl) (ghost1 (F := F)) _ funded
    (T₀ := fun c => iprop(StableHlo.held (c : Thread nD τ) (Pipeline.ucRefs τ sig) (V0 m c) ∗ riding (F := F) 0 c))
    (Tₙ := fun c => done (V1 m) c)
    (hch := fun c => ⟨.rfl, ?_, ?_, .rfl⟩)
    (hinit := ?_) (QY := fun c s => Ends m c s)
    (hfin := fun c s' => ?_) (hQ := fun _ h hz => ⟨h, funext fun g => hz g (.inr (regions_no_unscoped g.2))⟩)
  · have e : (StableHlo.held (c : Thread nD τ) (Pipeline.ucRefs τ sig) (V1 m c) : sProp 𝕄) ⊢ unscopedBufs c (fun b => V1 m c b) := by
      rw [← Pipeline.unscopedBufs_held (Ix := Unit) (Name := ℕ) (U := UU) (Lvl := ℕ) c (V1 m c)]
    have e' : (iprop(StableHlo.held (c : Thread nD τ) (Pipeline.ucRefs τ sig) (V1 m c) ∗ idleC c ∗ ghost1 (F := F) c) : sProp 𝕄)
        ⊢ iprop(unscopedBufs c (fun b => V1 m c b) ∗ idleC c ∗ ghost1 (F := F) c) := sep_mono e .rfl
    exact e'
  · exact .rfl
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ ghost1 (F := F) c))
        ⊢ (bigSep Finset.univ fun c : Dev nD => iprop(StableHlo.held (c : Thread nD τ) (Pipeline.ucRefs τ sig) (V0 m c) ∗ riding (F := F) 0 c) : sProp 𝕄) := by
      refine bigSep_mono fun c _ => ?_
      rw [← Pipeline.unscopedBufs_held (Ix := Unit) (Name := ℕ) (U := UU) (Lvl := ℕ) c (V0 m c)]
      unfold riding
      refine (?_ : BIBase.Entails (PROP := sProp 𝕄) _ _)
      iintro ⟨Hb, -, HO, -, -, Hg⟩
      isplitl [Hb]; · iexact Hb
      isplitl [HO]; · iexists ∅; iexact HO
      iexact Hg
    iintro ⟨H, -⟩
    imodintro
    iapply hsplit; iexact H
  · unfold done
    iintro ⟨⟨%x, %a, %hl, Hh⟩, HSI⟩
    have e : (unscopedBufs c (fun b => fin1 (fun c' => mid (V1 m) c' x a) c b) : sProp 𝕄)
        ⊢ StableHlo.held (c : Thread nD τ) (Pipeline.ucRefs τ sig) (fin1 (fun c' => mid (V1 m) c' x a) c) := by
      rw [Pipeline.unscopedBufs_held (Ix := Unit) (Name := ℕ) (U := UU) (Lvl := ℕ) c (fin1 (fun c' => mid (V1 m) c' x a) c)]
    unfold StableHlo.held at e
    ihave Hh := e $$ Hh
    ihave Hr := (pointsTo_read_all (Pipeline.ucRefs τ sig) (fun b => ((c : Thread nD τ).1, b)) (fin1 (fun c' => mid (V1 m) c' x a) c) s') $$ [Hh HSI]
    · isplitl [Hh] <;> iassumption
    icases Hr with ⟨%h, HSI⟩
    imodintro
    isplitr
    · ipureintro
      exact ⟨⟨x, a, hl, (h (Proc.devRef .tc main_v3) (mem_uc main_v3 (by decide))).trans (fin1_out _ c)⟩,
        (h (Proc.devRef .tc main_arg0) (mem_uc main_arg0 (by decide))).trans (end_arg m c x a main_arg0 (by decide)),
        (h (Proc.devRef .tc main_arg1) (mem_uc main_arg1 (by decide))).trans (end_arg m c x a main_arg1 (by decide)),
        (h (Proc.devRef .tc main_arg2) (mem_uc main_arg2 (by decide))).trans (end_arg m c x a main_arg2 (by decide)),
        (h (Proc.devRef .tc main_arg3) (mem_uc main_arg3 (by decide))).trans (end_arg m c x a main_arg3 (by decide)),
        (h (Proc.devRef .tc main_arg4) (mem_uc main_arg4 (by decide))).trans (end_arg m c x a main_arg4 (by decide)),
        (h (Proc.devRef .tc main_arg5) (mem_uc main_arg5 (by decide))).trans (end_arg m c x a main_arg5 (by decide))⟩
    · iexact HSI

end Cert.KernelIdeal.Two

end
-- ==== Proof.Ideal.Plain.lean ====
module

public import proofs.«01_k».proof.Defs
public import proofs.«01_k».proof.Proof.Gen.Kernel
public import proofs.«01_k».proof.Proof.Gen.KernelIdeal
public import proofs.«01_k».proof.Proof.Ideal.Run

/-!
  The kernel over float words. The run of `Run.lean` holds at every interpretation of the floats and of the named
  constant; at float words, with the named constant read as the word it stands for, the two programs are the same
  text, so the kernel's own frame is that run's.
-/

@[expose] public section

set_option maxRecDepth 16384

noncomputable section

namespace Cert.Plain

open Idealize.ShloMosaic Idealize.SL.Sem

/-- Over float words a named constant is its word. -/
instance word : Named Bits := ⟨fun _ _ {φ} b => FloatOps.ofBits φ b⟩

/-- The two programs have the same bodies. -/
theorem bodies_eq : (Cert.Kernel.defs₀ (F := Bits) : Defs Cert.KernelIdeal.nD Cert.KernelIdeal.τ Cert.KernelIdeal.sig (Elt Bits) Cert.KernelIdeal.Λ₀)
    = Cert.KernelIdeal.defs₀ (F := Bits) := by
  unfold Cert.Kernel.defs₀ Cert.KernelIdeal.defs₀
  congr 1
  funext l x
  match l, x with
  | ⟨0, _⟩, (t, s) => rfl
  | ⟨1, _⟩, (t, s) => rfl

/-- And so the same pipelines. -/
theorem defs_eq : (Cert.Kernel.defs (F := Bits) : Defs Cert.KernelIdeal.nD Cert.KernelIdeal.τ Cert.KernelIdeal.sig (Elt Bits)
      (Pipeline.Sig Cert.KernelIdeal.Λ₀ (Fin 2) fun p => (Cert.KernelIdeal.pcfgs (F := Bits) p).Adm))
    = Cert.KernelIdeal.defs (F := Bits) :=
  congrArg (Pipeline.defs (Cert.KernelIdeal.pcfgs (F := Bits))) bodies_eq

/-- The kernel's frame over float words. -/
theorem frame : Cert.quiescent_Kernel := fun m ρ _ => by
  have H := (θ_run Cert.KernelIdeal.defs _ _).mono (fun _ h => (⟨fun c => (h.1 c).2, h.2⟩ : _ ∧ _)) (Cert.KernelIdeal.Two.run (F := Bits) m ρ)
  rw [← defs_eq] at H
  exact H

end Cert.Plain

end
-- ==== Proof.Value.Arith.lean ====
module

public import Idealize.ShloMosaic.Lib.Pointwise
public import Mathlib.Tactic.IntervalCases
public import Mathlib.Tactic.Linarith
public import Mathlib.Tactic.Ring

/-!
  The arithmetic of the network over the extended reals: the hidden layer, its projection, the two ways of writing the
  logits (from integer levels with the offset's part taken out of the sum; from the adjacency put back to scale), the
  rows' log-softmax, and that the logits agree where everything that enters a product is finite.
-/

@[expose] public section

noncomputable section

namespace Cert.Value

open Idealize.ShloMosaic

/-! ## The constants -/

/-- The word of 15. -/
theorem lit_15 : Ideal.ofBits .f32 0x41700000#32 = ((15 : ℝ) : EReal) := by simp [Ideal.ofBits, Ideal.ieee]; rw [← EReal.coe_mul]; norm_num
/-- The word of 7.5. -/
theorem lit_7h : Ideal.ofBits .f32 0x40F00000#32 = ((15 / 2 : ℝ) : EReal) := by simp [Ideal.ofBits, Ideal.ieee]; rw [← EReal.coe_mul]; norm_num
/-- The word of one half. -/
theorem lit_half : Ideal.ofBits .f32 0x3F000000#32 = ((1 / 2 : ℝ) : EReal) := by simp [Ideal.ofBits, Ideal.ieee]; rw [← EReal.coe_mul]; norm_num
/-- The word of 7. -/
theorem lit_7 : Ideal.ofBits .f32 0x40E00000#32 = ((7 : ℝ) : EReal) := by simp [Ideal.ofBits, Ideal.ieee]; rw [← EReal.coe_mul]; norm_num
/-- The word of -8. -/
theorem lit_m8 : Ideal.ofBits .f32 0xC1000000#32 = ((-8 : ℝ) : EReal) := by simp [Ideal.ofBits, Ideal.ieee]; rw [← EReal.coe_mul]; norm_num
/-- The word of positive infinity. -/
theorem lit_top : Ideal.ofBits .f32 0x7F800000#32 = ⊤ := by simp [Ideal.ofBits, Ideal.ieee]

/-! ## Finite entries -/

/-- Neither infinity. -/
def IsReal (a : EReal) : Prop := ∃ r : ℝ, a = (r : EReal)

/-- A sum of two finite entries is finite. -/
theorem IsReal.add {a b : EReal} : IsReal a → IsReal b → IsReal (a + b)
  | ⟨r, hr⟩, ⟨s, hs⟩ => ⟨r + s, by rw [hr, hs, EReal.coe_add]⟩
/-- A product of two finite entries is finite. -/
theorem IsReal.mul {a b : EReal} : IsReal a → IsReal b → IsReal (a * b)
  | ⟨r, hr⟩, ⟨s, hs⟩ => ⟨r * s, by rw [hr, hs, EReal.coe_mul]⟩
/-- The greater of two finite entries is finite. -/
theorem IsReal.sup {a b : EReal} : IsReal a → IsReal b → IsReal (max a b) := fun ha hb => by
  rcases max_choice a b with h | h <;> rw [h] <;> assumption
/-- Zero is finite. -/
theorem IsReal.zero : IsReal 0 := ⟨0, rfl⟩
/-- A sum of finite entries is finite. -/
theorem IsReal.sum {n : ℕ} {f : Fin n → EReal} (h : ∀ k, IsReal (f k)) : IsReal (∑ k, f k) :=
  Finset.sum_induction f IsReal (fun _ _ => IsReal.add) IsReal.zero fun k _ => h k

/-- An entry whose absolute value is below infinity is finite. -/
theorem IsReal.of_abs {a : EReal} (h : max a (-a) < ⊤) : IsReal a := by
  induction a with
  | bot => simp at h
  | top => simp at h
  | coe r => exact ⟨r, rfl⟩

/-- A sum of reals is the same sum over the extended reals. -/
theorem coe_sum {n : ℕ} (f : Fin n → ℝ) : ((∑ k, f k : ℝ) : EReal) = ∑ k, (f k : EReal) :=
  map_sum (⟨⟨fun r : ℝ => (r : EReal), rfl⟩, EReal.coe_add⟩ : ℝ →+ EReal) f _

/-! ## The quantiser -/

/-- The scaled entry, rounded half to even. -/
def scaled (a : EReal) : EReal :=
  Ideal.liftRound Ideal.roundHalfEven (a * Ideal.ofBits .f32 0x41700000#32 - Ideal.ofBits .f32 0x40F00000#32)

/-- The level as the four-bit word that the first pass stores. -/
def word (a : EReal) : BitVec 4 := Ideal.fptosi 4 (scaled a)

/-- The level as the reference has it, clipped among the reals. -/
def level (a : EReal) : EReal := min (Ideal.ofBits .f32 0x40E00000#32) (max (Ideal.ofBits .f32 0xC1000000#32) (scaled a))

/-- The conversion to four bits clips as the reference does. -/
theorem word_eq {a : EReal} (h : IsReal a) : ((((word a).toInt : ℤ) : ℝ) : EReal) = level a := by
  obtain ⟨r, rfl⟩ := h
  unfold word level scaled
  rw [lit_15, lit_7h, lit_7, lit_m8, ← EReal.coe_mul, ← EReal.coe_sub, Ideal.liftRound_coe]
  generalize Ideal.roundHalfEven _ = n
  unfold Ideal.fptosi
  rw [Ideal.toIntClamped_coe, Int.floor_intCast, Int.ceil_intCast, ite_self]
  have h1 : max (-(2 ^ (4 - 1) : ℕ) : ℤ) (min (((2 ^ (4 - 1) : ℕ) : ℤ) - 1) n) = min 7 (max (-8) n) := by
    norm_num; omega
  rw [h1, ← EReal.coe_strictMono.monotone.map_max, ← EReal.coe_strictMono.monotone.map_min]
  congr 1
  have h2 : min (7 : ℝ) (max (-8) (n : ℝ)) = ((min 7 (max (-8) n) : ℤ) : ℝ) := by push_cast; rfl
  rw [h2]
  congr 1
  have hl : -8 ≤ min 7 (max (-8) n) := by omega
  have hu : min 7 (max (-8) n) ≤ 7 := by omega
  generalize min 7 (max (-8) n) = k at hl hu
  interval_cases k <;> rfl

/-- A level is finite. -/
theorem level_real {a : EReal} (h : IsReal a) : IsReal (level a) := ⟨_, (word_eq h).symm⟩

/-! ## The network -/

variable {n e d c : ℕ}

/-- The hidden layer. -/
def hidden (x : Fin n → Fin e → EReal) (adj : Fin n → Fin n → EReal) (W1 : Fin e → Fin d → EReal) (b1 : Fin d → EReal) (i : Fin n) (h : Fin d) : EReal :=
  max (∑ k, adj i k * (∑ l, x k l * W1 l h) + b1 h) 0

/-- The hidden layer's projection to the classes. -/
def proj (hid : Fin n → Fin d → EReal) (W2 : Fin d → Fin c → EReal) (k : Fin n) (j : Fin c) : EReal := ∑ h, hid k h * W2 h j

/-- A row's logits from the integer levels `q` of its adjacency: the offset's part is taken out of the sum. -/
def logitsQ (q : Fin n → BitVec 4) (s : Fin n → Fin c → EReal) (b2 : Fin c → EReal) (j : Fin c) : EReal :=
  (∑ k, (((q k).toInt : ℝ) : EReal) * (s k j * ((1 / 15 : ℝ) : EReal))) + Ideal.ofBits .f32 0x3F000000#32 * (∑ k, s k j) + b2 j

/-- A row's logits from its adjacency put back to scale. -/
def logitsA (a : Fin n → EReal) (s : Fin n → Fin c → EReal) (b2 : Fin c → EReal) (j : Fin c) : EReal :=
  (∑ k, Ideal.div (level (a k) + Ideal.ofBits .f32 0x40F00000#32) (Ideal.ofBits .f32 0x41700000#32) * s k j) + b2 j

/-- The log-softmax of a row, its maximum taken from `w` on. -/
def logSoftmax (w : EReal) (z : Fin c → EReal) (j : Fin c) : EReal :=
  z j - Finset.univ.fold max w z - Ideal.log (∑ l, Ideal.exp (z l - Finset.univ.fold max w z))

/-- The hidden layer of finite operands is finite. -/
theorem hidden_real {x : Fin n → Fin e → EReal} {adj : Fin n → Fin n → EReal} {W1 : Fin e → Fin d → EReal} {b1 : Fin d → EReal}
    (hx : ∀ i k, IsReal (x i k)) (ha : ∀ i k, IsReal (adj i k)) (hW : ∀ i k, IsReal (W1 i k)) (hb : ∀ k, IsReal (b1 k)) (i : Fin n) (h : Fin d) :
    IsReal (hidden x adj W1 b1 i h) :=
  ((IsReal.sum fun k => (ha i k).mul (IsReal.sum fun l => (hx k l).mul (hW l h))).add (hb h)).sup IsReal.zero

/-- The projection of a finite layer by finite weights is finite. -/
theorem proj_real {hid : Fin n → Fin d → EReal} {W2 : Fin d → Fin c → EReal} (hh : ∀ i k, IsReal (hid i k)) (hW : ∀ i k, IsReal (W2 i k)) (k : Fin n) (j : Fin c) :
    IsReal (proj hid W2 k j) := IsReal.sum fun h => (hh k h).mul (hW h j)

/-- The two ways of writing the logits agree. -/
theorem logits_eq {a : Fin n → EReal} {s : Fin n → Fin c → EReal} (b2 : Fin c → EReal) (ha : ∀ k, IsReal (a k)) (hs : ∀ k j, IsReal (s k j)) (j : Fin c) :
    logitsQ (fun k => word (a k)) s b2 j = logitsA a s b2 j := by
  choose q hq using fun k => level_real (ha k)
  choose t ht using fun k => hs k j
  unfold logitsQ logitsA
  congr 1
  simp only [word_eq (ha _), hq, ht, lit_half, lit_7h, lit_15, Ideal.div_coe (show (15 : ℝ) ≠ 0 by norm_num), ← EReal.coe_add, ← EReal.coe_mul, ← coe_sum]
  congr 1
  rw [Finset.mul_sum, ← Finset.sum_add_distrib]
  refine Finset.sum_congr rfl fun k _ => ?_
  ring

/-- A further maximum with the first value changes nothing. -/
theorem max_fold (w : EReal) (z : Fin c → EReal) : max w (Finset.univ.fold max w z) = Finset.univ.fold max w z :=
  max_eq_right ((Finset.le_fold_max _).2 (Or.inl le_rfl))

end Cert.Value

end
-- ==== Proof.Value.Blocks.lean ====
module

public import proofs.«01_k».proof.Proof.Ideal.Region1
public import proofs.«01_k».proof.Proof.Value.Arith

/-!
  What one block computes: each payload of the two bodies, read at one entry.
-/

@[expose] public section

set_option maxRecDepth 16384

noncomputable section

namespace Cert.Value

open Cert.KernelIdeal Cert.KernelIdeal.Gen Cert.KernelIdeal.Two
open Idealize.ShloMosaic

/-- The first product. -/
theorem pay_support (x : Vec Ideal S10000x256 .f32) (w : Vec Ideal S256x8 .f32) (i : Fin 10000) (j : Fin 8) :
    k0_pay1 x w (ix2 i j) = (∑ k, x (ix2 i k) * w (ix2 k j) : EReal) := by
  pointwise [k0_pay1]

/-- A block's rows of the hidden layer. -/
theorem pay_hidden (x : Vec Ideal S512x10000 .f32) (w : Vec Ideal S10000x8 .f32) (b : Vec Ideal S1x8 .f32) (i : Fin 512) (j : Fin 8) :
    k0_pay2 x w b (ix2 i j) = (max ((∑ k, x (ix2 i k) * w (ix2 k j)) + b (ix2 0 j)) 0 : EReal) := by
  pointwise [k0_pay2]

/-- A block's levels. -/
theorem pay_word (x : Vec Ideal S512x10000 .f32) (i : Fin 512) (j : Fin 10000) : k0_pay3 x (ix2 i j) = word (x (ix2 i j)) := by
  pointwise [k0_pay3]
  rfl

/-- The projection of the hidden layer. -/
theorem pay_proj (x : Vec Ideal S10000x8 .f32) (w : Vec Ideal S8x40 .f32) (i : Fin 10000) (j : Fin 40) :
    k1_pay1 x w (ix2 i j) = (∑ k, x (ix2 i k) * w (ix2 k j) : EReal) := by
  pointwise [k1_pay1]

/-- The offset's part of the logits. -/
theorem pay_offset (x : Vec Ideal S10000x8 .f32) (w : Vec Ideal S8x40 .f32) (j : Fin 40) :
    k1_pay2 x w (ix2 0 j) = (Ideal.ofBits .f32 0x3F000000#32 * ∑ k, k1_pay1 x w (ix2 k j) : EReal) := by
  pointwise [k1_pay2]

/-- The projection by the scale. -/
theorem pay_scaled (x : Vec Ideal S10000x8 .f32) (w : Vec Ideal S8x40 .f32) (i : Fin 10000) (j : Fin 40) :
    k1_pay3 x w (ix2 i j) = (k1_pay1 x w (ix2 i j) * ((1 / 15 : ℝ) : EReal) : EReal) := by
  pointwise [k1_pay3]
  rw [IdealRules.named_const.ideal_named_scalar _ _ _ _ rfl]

/-- A row of a block of the result, from the row of the block of levels. -/
theorem pay_out (q : Vec Ideal S1280x10000 .i4) (s : Vec Ideal S10000x40 .bf16) (c b : Vec Ideal S1x40 .f32) (i : Fin 1280) (j : Fin 40) :
    k1_pay4 (upper q) s (lower q) s c b (ix2 i j)
      = logSoftmax (Ideal.ofBits .f32 0xFF800000#32)
          (fun l => ((∑ k, (((q (ix2 i k)).toInt : ℝ) : EReal) * s (ix2 k l)) + c (ix2 0 l) + b (ix2 0 l) : EReal)) j := by
  have h : ∀ l, ((if h : (i : ℕ) < 640 then ∑ k, FloatOps.sitofp (F := Ideal) .bf16 (upper q (ix2 ⟨i, h⟩ k)) * s (ix2 k l)
      else ∑ k, FloatOps.sitofp (F := Ideal) .bf16 (lower q (ix2 ⟨i - 640, by omega⟩ k)) * s (ix2 k l)) : EReal)
      = ∑ k, (((q (ix2 i k)).toInt : ℝ) : EReal) * s (ix2 k l) := fun l => by
    split
    · refine Finset.sum_congr rfl fun k _ => ?_
      have : upper q (ix2 ⟨i, ‹_›⟩ k) = q (ix2 i k) := by
        unfold upper; congr 1; funext a; fin_cases a <;> apply Fin.ext <;> simp
      rw [this]; rfl
    · refine Finset.sum_congr rfl fun k _ => ?_
      have : lower q (ix2 ⟨i - 640, by omega⟩ k) = q (ix2 i k) := by
        unfold lower; congr 1; funext a; fin_cases a <;> apply Fin.ext <;> simp; omega
      rw [this]; rfl
  pointwise [k1_pay4]
  simp only [h]
  rfl

end Cert.Value

end
-- ==== Proof.Value.Pass1.lean ====
module

public import proofs.«01_k».proof.Proof.Ideal.Seg0
public import proofs.«01_k».proof.Proof.Value.Blocks
public import Idealize.ShloMosaic.Lib.Pipeline.ValueKit
public import Idealize.ShloMosaic.Lib.Pipeline.ArrRel

/-!
  What the two arrays hold after pass 1: the hidden layer, and the levels of the adjacency in the rows that it has. The
  rows of the array of levels past the adjacency's are not read of.
-/

@[expose] public section

set_option maxRecDepth 16384

noncomputable section

namespace Cert.Value

open Cert.KernelIdeal Cert.KernelIdeal.Gen Cert.KernelIdeal.Two
open Idealize.ShloMosaic Idealize.ShloMosaic.TcCoe
open Idealize.ShloMosaic.Pipeline (Dat RDat Cfg Window)

variable (V : Dev nD → Valuation τ sig (Elt Ideal)) (c : Dev nD)

/-! ## The staged operands -/

/-- Block `t` of the adjacency starts at row `t` blocks down. -/
theorem idx0_1 : ∀ t : Fin cfg0.N, win0_1.index t = ![t.val, 0] := by decide +kernel
/-- So does block `t` of the hidden layer. -/
theorem idx0_4 : ∀ t : Fin cfg0.N, win0_4.index t = ![t.val, 0] := by decide +kernel
/-- So does block `t` of the levels. -/
theorem idx0_5 : ∀ t : Fin cfg0.N, win0_5.index t = ![t.val, 0] := by decide +kernel

/-- The rows of block `t` that the adjacency has. -/
theorem xs0_1 : ∀ t : Fin cfg0.N, win0_1.xsize (grid0.coords t) = ![min 512 (10000 - t.val * 512), 10000] := by decide +kernel
/-- The rows of block `t` that the hidden layer has. -/
theorem xs0_4 : ∀ t : Fin cfg0.N, win0_4.xsize (grid0.coords t) = ![min 512 (10000 - t.val * 512), 8] := by decide +kernel

/-- The features are one block. -/
theorem idx0_0 : win0_0.index p0 = ![0, 0] := by decide +kernel
/-- The first weights are one block. -/
theorem idx0_2 : win0_2.index p0 = ![0, 0] := by decide +kernel
/-- The first bias is one block. -/
theorem idx0_3 : win0_3.index p0 = ![0, 0] := by decide +kernel

/-- The staged features are the array. -/
theorem xBlk_at (i : Fin 10000) (j : Fin 256) : xBlk (byRef V) c (ix2 i j) = V c main_arg0 (ix2 i j) := by
  unfold xBlk; blk_simp; congr 1; blk_ext [idx0_0]
/-- The staged first weights are the array. -/
theorem w1Blk_at (i : Fin 256) (j : Fin 8) : w1Blk (byRef V) c (ix2 i j) = V c main_arg2 (ix2 i j) := by
  unfold w1Blk; blk_simp; congr 1; blk_ext [idx0_2]
/-- The staged first bias is the array. -/
theorem b1Blk_at (j : Fin 8) : b1Blk (byRef V) c (ix2 0 j) = V c main_v0 (ix2 0 j) := by
  unfold b1Blk; blk_simp; congr 1; blk_ext [idx0_3]

/-- A block of the adjacency, in its rows that the array has. -/
theorem adjFill_at (t : Fin cfg0.N) (d : S512x10000.Idx → Elt Ideal .f32) (r : Fin 512) (k : Fin 10000) (h : t.val * 512 + r.val < 10000) :
    adjFill (byRef V) c t d (ix2 r k) = V c main_arg1 (ix2 ⟨t.val * 512 + r.val, h⟩ k) := by
  have hm : win0_1.moved (grid0.coords t) (ix2 r k) = true := (win0_1.moved_iff _ _).2 fun a => by
    rw [xs0_1]
    fin_cases a
    · show r.val < min 512 (10000 - t.val * 512); omega
    · exact k.isLt
  unfold adjFill Window.fill
  rw [dif_pos hm]
  unfold adjBlk
  blk_simp
  congr 1
  blk_ext [idx0_1]

/-! ## The two arrays -/

/-- The hidden layer over the buffers' contents, the first bias the host's reshaped one. -/
def hiddenOf (i : Fin 10000) (j : Fin 8) : EReal :=
  hidden (fun i k => V c main_arg0 (ix2 (n0 := 10000) (n1 := 256) i k)) (fun i k => V c main_arg1 (ix2 i k)) (fun i k => V c main_arg2 (ix2 i k)) (fun k => V c main_v0 (ix2 0 k)) i j

/-- A block's rows of the hidden layer are the layer's at their places. -/
theorem block_hidden (t : Fin cfg0.N) (d : S512x10000.Idx → Elt Ideal .f32) (r : Fin 512) (j : Fin 8) (h : t.val * 512 + r.val < 10000) :
    k0_pay2 (adjFill (byRef V) c t d) (s1 (byRef V) c) (b1Blk (byRef V) c) (ix2 r j) = hiddenOf V c ⟨t.val * 512 + r.val, h⟩ j := by
  rw [pay_hidden, b1Blk_at]
  unfold hiddenOf hidden s1
  simp only [adjFill_at V c t d r _ h, pay_support, xBlk_at, w1Blk_at]

/-- A block's levels are those of the adjacency at their places. -/
theorem block_word (t : Fin cfg0.N) (d : S512x10000.Idx → Elt Ideal .f32) (r : Fin 512) (k : Fin 10000) (h : t.val * 512 + r.val < 10000) :
    k0_pay3 (adjFill (byRef V) c t d) (ix2 r k) = word (V c main_arg1 (ix2 (n0 := 10000) (n1 := 10000) ⟨t.val * 512 + r.val, h⟩ k)) := by
  rw [pay_word, adjFill_at V c t d r k h]

/-- After pass 1 the first result is the hidden layer. -/
theorem pass1_hidden {h a} (H : Left0 V c h a) : h = fun i => hiddenOf V c (i 0) (i 1) := by
  obtain ⟨X, hX, hA⟩ := H.1.exists_exact
  rw [hA (Function.update (fun _ _ _ => Classical.arbitrary _) (4 : Fin 6) X) fun _ _ _ => by rw [Function.update_self]]
  refine Dat.arrAt_eq_of_covers (cfg := cfg0) _ (4 : Fin 6) _ (by decide +kernel) fun t hf y => ?_
  obtain ⟨d, hd⟩ := Pipeline.Dat.toRRel_leaves (dat := dat0 (byRef V) c) (w := (4 : Fin 6)) (by decide) (hX t t.isLt hf)
  rw [Pipeline.RDat.withAfter_after, Function.update_self, hd]
  have h0 : (y 0).val < min 512 (10000 - t.val * 512) := by have := (y 0).isLt; exact this.trans_eq (congrFun (xs0_4 t) 0)
  have h1 : (y 1).val < 8 := (y 1).isLt.trans_eq (congrFun (xs0_4 t) 1)
  blk_simp
  refine Eq.trans (congrArg _ (?_ : _ = ix2 (⟨(y 0).val, by omega⟩ : Fin 512) (⟨(y 1).val, h1⟩ : Fin 8))) ((block_hidden V c t d _ _ (by show t.val * 512 + (y 0).val < 10000; omega)).trans ?_)
  · funext a; fin_cases a <;> rfl
  · refine congrArg₂ (hiddenOf V c) (Fin.ext ?_) (Fin.ext ?_) <;> blk_simp [idx0_4]

/-- After pass 1 the second result holds the adjacency's levels in the adjacency's rows. -/
theorem pass1_word {h a} (H : Left0 V c h a) (i : Fin 10240) (k : Fin 10000) (hi : i.val < 10000) :
    a (ix2 i k) = word (V c main_arg1 (ix2 (n0 := 10000) (n1 := 10000) ⟨i.val, hi⟩ k)) := by
  obtain ⟨X, hX, hA⟩ := H.2.exists_exact
  rw [hA (Function.update (fun _ _ _ => Classical.arbitrary _) (5 : Fin 6) X) fun _ _ _ => by rw [Function.update_self]]
  revert hi
  refine Dat.arrAt_forall_of_covers (Val := Elt Ideal) (cfg := cfg0) (c := c) _ (5 : Fin 6) (fun (i : S10240x10000.Idx) (v : BitVec 4) => ∀ hi : (i 0).val < 10000, v = word (V c main_arg1 (ix2 (n0 := 10000) (n1 := 10000) ⟨(i 0).val, hi⟩ (i 1)))) (by decide +kernel) (fun t hf y => ?_) (ix2 i k)
  obtain ⟨d, hd⟩ := Pipeline.Dat.toRRel_leaves (dat := dat0 (byRef V) c) (w := (5 : Fin 6)) (by decide) (hX t t.isLt hf)
  rw [Pipeline.RDat.withAfter_after, Function.update_self, hd]
  blk_simp
  intro hi
  have h0 : (y 0).val < 512 := (y 0).isLt
  have h1 : (y 1).val < 10000 := (y 1).isLt
  have e0 : win0_5.index t 0 = t.val := congrFun (idx0_5 t) 0
  have hi' : t.val * 512 + (y 0).val < 10000 := by rw [← e0]; exact hi
  refine Eq.trans (congrArg (k0_pay3 (adjFill (byRef V) c t d)) (?_ : _ = ix2 (⟨(y 0).val, h0⟩ : Fin 512) (⟨(y 1).val, h1⟩ : Fin 10000))) ((block_word V c t d _ _ hi').trans ?_)
  · funext a; fin_cases a <;> rfl
  · refine congrArg (fun i => word (V c main_arg1 i)) (congrArg₂ (ix2 (n0 := 10000) (n1 := 10000)) (Fin.ext ?_) (Fin.ext ?_)) <;> blk_simp [idx0_5]

end Cert.Value

end
-- ==== Proof.Value.Pass2.lean ====
module

public import proofs.«01_k».proof.Proof.Ideal.Seg1
public import proofs.«01_k».proof.Proof.Value.Pass1

/-!
  What the result's array holds after pass 2, over what pass 1 may have left: the log-softmax of the logits from the
  adjacency's levels. The rows of levels past the adjacency's only reach rows that the last write-back cuts.
-/

@[expose] public section

set_option maxRecDepth 16384

noncomputable section

namespace Cert.Value

open Cert.KernelIdeal Cert.KernelIdeal.Gen Cert.KernelIdeal.Two
open Idealize.ShloMosaic Idealize.ShloMosaic.TcCoe
open Idealize.ShloMosaic.Pipeline (Dat RDat Cfg Window)

section Staged

variable (W : Dev nD → Valuation τ sig (Elt Ideal)) (c : Dev nD)

/-! ## The staged operands -/

/-- Block `t` of the levels starts at row `t` blocks down. -/
theorem idx1_0 : ∀ t : Fin cfg1.N, win1_0.index t = ![t.val, 0] := by decide +kernel
/-- So does block `t` of the result. -/
theorem idx1_4 : ∀ t : Fin cfg1.N, win1_4.index t = ![t.val, 0] := by decide +kernel
/-- The hidden layer is one block. -/
theorem idx1_1 : win1_1.index r0 = ![0, 0] := by decide +kernel
/-- The second weights are one block. -/
theorem idx1_2 : win1_2.index r0 = ![0, 0] := by decide +kernel
/-- The second bias is one block. -/
theorem idx1_3 : win1_3.index r0 = ![0, 0] := by decide +kernel
/-- The rows of block `t` that the result has. -/
theorem xs1_4 : ∀ t : Fin cfg1.N, win1_4.xsize (grid1.coords t) = ![min 1280 (10000 - t.val * 1280), 40] := by decide +kernel

/-- A staged block of levels is the array at its place. -/
theorem qBlk_at (t : Fin cfg1.N) (r : Fin 1280) (k : Fin 10000) (h : t.val * 1280 + r.val < 10240) :
    qBlk (byRef W) c t (ix2 r k) = W c main_v2_1 (ix2 ⟨t.val * 1280 + r.val, h⟩ k) := by
  unfold qBlk; blk_simp; congr 1; blk_ext [idx1_0]
/-- The staged hidden layer is the array. -/
theorem hBlk_at (i : Fin 10000) (j : Fin 8) : hBlk (byRef W) c (ix2 i j) = W c main_v2_0 (ix2 i j) := by
  unfold hBlk; blk_simp; congr 1; blk_ext [idx1_1]
/-- The staged second weights are the array. -/
theorem w2Blk_at (i : Fin 8) (j : Fin 40) : w2Blk (byRef W) c (ix2 i j) = W c main_arg4 (ix2 i j) := by
  unfold w2Blk; blk_simp; congr 1; blk_ext [idx1_2]
/-- The staged second bias is the array. -/
theorem b2Blk_at (j : Fin 40) : b2Blk (byRef W) c (ix2 0 j) = W c main_v1 (ix2 0 j) := by
  unfold b2Blk; blk_simp; congr 1; blk_ext [idx1_3]

/-- The hidden layer's projection over the buffers' contents. -/
def projOf (k : Fin 10000) (j : Fin 40) : EReal :=
  proj (fun i k => W c main_v2_0 (ix2 (n0 := 10000) (n1 := 8) i k)) (fun i k => W c main_arg4 (ix2 (n0 := 8) (n1 := 40) i k)) k j

/-- The product at pass 2's first point is the projection. -/
theorem proj_at (k : Fin 10000) (j : Fin 40) : k1_pay1 (hBlk (byRef W) c) (w2Blk (byRef W) c) (ix2 k j) = projOf W c k j := by
  rw [pay_proj]; simp only [hBlk_at, w2Blk_at]; rfl

/-- A row of a block of the result. -/
theorem block_out (t : Fin cfg1.N) (r : Fin 1280) (j : Fin 40) (h : t.val * 1280 + r.val < 10240) :
    outBlk (byRef W) c t (ix2 r j)
      = logSoftmax (Ideal.ofBits .f32 0xFF800000#32)
          (logitsQ (fun k => W c main_v2_1 (ix2 (n0 := 10240) (n1 := 10000) ⟨t.val * 1280 + r.val, h⟩ k)) (projOf W c) (fun j => W c main_v1 (ix2 0 j))) j := by
  unfold outBlk
  rw [pay_out]
  refine congrArg (fun z => logSoftmax _ z j) (funext fun l => ?_)
  unfold logitsQ s2 cc
  rw [b2Blk_at, pay_offset]
  simp only [pay_scaled, proj_at, qBlk_at W c t r _ h]

end Staged

variable (V : Dev nD → Valuation τ sig (Elt Ideal)) (c : Dev nD)

/-- The network's result from the levels, over the buffers' contents as pass 1 finds them. -/
def resultQ (i : Fin 10000) (j : Fin 40) : EReal :=
  logSoftmax (Ideal.ofBits .f32 0xFF800000#32)
    (logitsQ (fun k => word (V c main_arg1 (ix2 (n0 := 10000) (n1 := 10000) i k)))
      (proj (hiddenOf V c) (fun i k => V c main_arg4 (ix2 (n0 := 8) (n1 := 40) i k))) (fun j => V c main_v1 (ix2 (n0 := 1) (n1 := 40) 0 j))) j

/-- After both passes the result is the network's. -/
theorem pass2_out {x : (c : Dev nD) → Buf (Elt Ideal) ((c : Thread nD τ).loc main_v2_0)} {a : (c : Dev nD) → Buf (Elt Ideal) ((c : Thread nD τ).loc main_v2_1)}
    (H : Left0 V c (x c) (a c)) : out1 (fun c' => mid V c' (x c') (a c')) c = fun i => resultQ V c (i 0) (i 1) := by
  unfold out1
  refine Dat.arrAt_eq_of_covers (Val := Elt Ideal) (cfg := cfg1) (c := c) _ (4 : Fin 5) _ (by decide +kernel) fun t hf y => ?_
  have ht : t.val < 8 := t.isLt
  have h0 : (y 0).val < min 1280 (10000 - t.val * 1280) := (y 0).isLt.trans_eq (congrFun (xs1_4 t) 0)
  have h1 : (y 1).val < 40 := (y 1).isLt.trans_eq (congrFun (xs1_4 t) 1)
  have hi : t.val * 1280 + (y 0).val < 10000 := by omega
  blk_simp
  refine Eq.trans (congrArg (outBlk (byRef fun c' => mid V c' (x c') (a c')) c t) (?_ : _ = ix2 (⟨(y 0).val, by omega⟩ : Fin 1280) (⟨(y 1).val, h1⟩ : Fin 40)))
    ((block_out _ c t _ _ (by show t.val * 1280 + (y 0).val < 10240; omega)).trans ?_)
  · funext a; fin_cases a <;> rfl
  · have e : resultQ V c (⟨t.val * 1280 + (y 0).val, hi⟩ : Fin 10000) (⟨(y 1).val, h1⟩ : Fin 40)
        = resultQ V c ((win1_4.blk t).view.emb y 0) ((win1_4.blk t).view.emb y 1) :=
      congrArg₂ (resultQ V c) (Fin.ext (by blk_simp [idx1_4])) (Fin.ext (by blk_simp [idx1_4]))
    refine Eq.trans ?_ e
    unfold resultQ projOf; beta_reduce
    rw [mid_h, mid_a, mid_of V c _ _ main_arg4 (by decide) (by decide), mid_of V c _ _ main_v1 (by decide) (by decide), pass1_hidden V c H]
    refine congrArg (fun q => logSoftmax _ (logitsQ q _ _) _) (funext fun k => pass1_word V c H _ k hi)

end Cert.Value

end
-- ==== Proof.Value.Reference.lean ====
module

public import proofs.«01_k».proof.Proof.Gen.ReferenceIdeal.Run
public import proofs.«01_k».proof.Proof.Value.Arith

/-!
  What the reference computes: its result read at one entry is the network's, the logits from the adjacency put back to
  scale.
-/

@[expose] public section

set_option maxRecDepth 16384

noncomputable section

namespace Cert.Value

open Cert.ReferenceIdeal Cert.ReferenceIdeal.Gen Cert.ReferenceIdeal.Value
open Idealize.ShloMosaic Idealize.ShloMosaic.TcCoe

/-- The reference's hidden layer. -/
def refHidden (x : FVec Ideal S10000x256 .f32) (adj : FVec Ideal S10000x10000 .f32) (W1 : FVec Ideal S256x8 .f32) (b1 : FVec Ideal S8 .f32) : FVec Ideal S10000x8 .f32 :=
  maximumf (addf (Host.dotGeneral dot_S10000x10000_S10000x8_S10000x8_1_0_0_1_n_n none adj (Host.dotGeneral dot_S10000x256_S256x8_S10000x8_1_0_0_1_n_n none x W1))
    (broadcastInDim S10000x8 ![0, 1] bcast_S1x8_S10000x8_0_1 (broadcastInDim S1x8 ![1] bcast_S8_S1x8_1 b1))) (broadcastInDim S10000x8 ![] bcast_S_S10000x8 (constant S_ .f32 0x00000000#32))

/-- The reference's adjacency put back to scale. -/
def refScale (adj : FVec Ideal S10000x10000 .f32) : FVec Ideal S10000x10000 .f32 :=
  Host.divf (addf (minimumf (broadcastInDim S10000x10000 ![] bcast_S_S10000x10000 (id (constant S_ .f32 0x40E00000#32)))
      (maximumf (broadcastInDim S10000x10000 ![] bcast_S_S10000x10000 (id (constant S_ .f32 0xC1000000#32)))
        (Host.roundeven (subf (mulf adj (broadcastInDim S10000x10000 ![] bcast_S_S10000x10000 (constant S_ .f32 0x41700000#32))) (broadcastInDim S10000x10000 ![] bcast_S_S10000x10000 (constant S_ .f32 0x40F00000#32))))))
    (broadcastInDim S10000x10000 ![] bcast_S_S10000x10000 (constant S_ .f32 0x40F00000#32))) (broadcastInDim S10000x10000 ![] bcast_S_S10000x10000 (constant S_ .f32 0x41700000#32))

/-- The reference's logits. -/
def refLogits (a : FVec Ideal S10000x10000 .f32) (h : FVec Ideal S10000x8 .f32) (W2 : FVec Ideal S8x40 .f32) (b2 : FVec Ideal S40 .f32) : FVec Ideal S10000x40 .f32 :=
  addf (Host.dotGeneral dot_S10000x10000_S10000x40_S10000x40_1_0_0_1_n_n none a (Host.dotGeneral dot_S10000x8_S8x40_S10000x40_1_0_0_1_n_n none h W2))
    (broadcastInDim S10000x40 ![0, 1] bcast_S1x40_S10000x40_0_1 (broadcastInDim S1x40 ![1] bcast_S40_S1x40_1 b2))

/-- The reference's rows less their maxima. -/
def refShift (z : FVec Ideal S10000x40 .f32) : FVec Ideal S10000x40 .f32 :=
  subf z (broadcastInDim S10000x40 ![0, 1] bcast_S10000x1_S10000x40_0_1 (broadcastInDim S10000x1 ![0] bcast_S10000_S10000x1_0
    (maximumf (broadcastInDim S10000 ![] bcast_S_S10000 (constant S_ .f32 0xFF800000#32)) (Host.reduce FloatOps.maximumf z (constant S_ .f32 0xFF800000#32) reducesTo_S10000x40_S10000_d1 h_S_))))

/-- The reference's log-softmax of shifted rows. -/
def refSoft (z : FVec Ideal S10000x40 .f32) : FVec Ideal S10000x40 .f32 :=
  subf z (broadcastInDim S10000x40 ![0, 1] bcast_S10000x1_S10000x40_0_1 (Host.log (broadcastInDim S10000x1 ![0] bcast_S10000_S10000x1_0
    (Host.reduceAdd (Host.exp z) (constant S_ .f32 0x00000000#32) reducesTo_S10000x40_S10000_d1 h_S_))))

variable (m : (ℓ : Loc nD τ sig) → Buf (Elt Ideal) ℓ) (c : Dev nD)

/-- The reference's result by its parts. -/
theorem res_eq : res_main_v21 m c
    = refSoft (refShift (refLogits (refScale (m ((c.tc : Thread nD τ).loc main_arg1)))
        (refHidden (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4)) (m ((c.tc : Thread nD τ).loc main_arg5)))) := rfl

/-- The reference's hidden layer at an entry. -/
theorem refHidden_at (x : FVec Ideal S10000x256 .f32) (adj : FVec Ideal S10000x10000 .f32) (W1 : FVec Ideal S256x8 .f32) (b1 : FVec Ideal S8 .f32) (i : Fin 10000) (j : Fin 8) :
    refHidden x adj W1 b1 (ix2 i j) = hidden (fun i k => x (ix2 i k)) (fun i k => adj (ix2 i k)) (fun i k => W1 (ix2 i k)) (fun k => b1 (ix1 k)) i j := by
  pointwise [refHidden]
  rfl

/-- The reference's rescaled adjacency at an entry. -/
theorem refScale_at (adj : FVec Ideal S10000x10000 .f32) (i : Fin 10000) (j : Fin 10000) :
    refScale adj (ix2 i j) = Ideal.div (level (adj (ix2 i j)) + Ideal.ofBits .f32 0x40F00000#32) (Ideal.ofBits .f32 0x41700000#32) := by
  pointwise [refScale]
  rfl

/-- The reference's logits at an entry. -/
theorem refLogits_at (adj : FVec Ideal S10000x10000 .f32) (h : FVec Ideal S10000x8 .f32) (W2 : FVec Ideal S8x40 .f32) (b2 : FVec Ideal S40 .f32) (i : Fin 10000) (j : Fin 40) :
    refLogits (refScale adj) h W2 b2 (ix2 i j) = logitsA (fun k => adj (ix2 i k)) (proj (fun i k => h (ix2 i k)) (fun i k => W2 (ix2 i k))) (fun k => b2 (ix1 k)) j := by
  pointwise [refLogits]
  simp only [refScale_at]
  rfl

/-- A shifted row at an entry: less the row's maximum. -/
theorem refShift_at (z : FVec Ideal S10000x40 .f32) (i : Fin 10000) (j : Fin 40) :
    refShift z (ix2 i j) = (z (ix2 i j) - Finset.univ.fold max (Ideal.ofBits .f32 0xFF800000#32) (fun l : Fin 40 => z (ix2 i l)) : EReal) := by
  pointwise [refShift]
  rw [max_fold]

/-- The log-softmax of shifted rows at an entry. -/
theorem refSoft_at (z : FVec Ideal S10000x40 .f32) (i : Fin 10000) (j : Fin 40) :
    refSoft z (ix2 i j) = (z (ix2 i j) - Ideal.log (∑ l : Fin 40, Ideal.exp (z (ix2 i l))) : EReal) := by
  pointwise [refSoft]

/-- The network's result from the adjacency put back to scale, over the arguments. -/
def resultA (x : FVec Ideal S10000x256 .f32) (adj : FVec Ideal S10000x10000 .f32) (W1 : FVec Ideal S256x8 .f32) (b1 : FVec Ideal S8 .f32) (W2 : FVec Ideal S8x40 .f32) (b2 : FVec Ideal S40 .f32)
    (i : Fin 10000) (j : Fin 40) : EReal :=
  logSoftmax (Ideal.ofBits .f32 0xFF800000#32)
    (logitsA (fun k => adj (ix2 i k))
      (proj (hidden (fun i k => x (ix2 i k)) (fun i k => adj (ix2 i k)) (fun i k => W1 (ix2 i k)) (fun k => b1 (ix1 k))) (fun i k => W2 (ix2 i k))) (fun k => b2 (ix1 k))) j

/-- The reference's result at an entry. -/
theorem res_at (i : Fin 10000) (j : Fin 40) : res_main_v21 m c (ix2 i j)
    = resultA (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) i j := by
  rw [res_eq]
  refine (refSoft_at _ i j).trans ?_
  simp only [refShift_at, refLogits_at, refHidden_at]
  rfl

end Cert.Value

end
-- ==== Proof.Value.Pre.lean ====
module

public import proofs.«01_k».proof.Pre_finite_arguments
public import proofs.«01_k».proof.Proof.Gen.Pre_finite_arguments
public import proofs.«01_k».proof.Proof.Value.Arith
public import Idealize.ShloMosaic.Lib.ReduceAll
public import Idealize.ShloMosaic.Lib.Affine

/-!
  What the precondition says: every entry of the features, the adjacency, the two weights and the first bias is finite.
-/

@[expose] public section

noncomputable section

namespace Cert.Value

open Cert.Pre_finite_arguments Cert.Pre_finite_arguments.Facts
open Idealize.ShloMosaic

/-- A scalar has one index. -/
instance : Subsingleton S_.Idx := ⟨fun a b => funext fun i => i.elim0⟩

/-- The condition's word at an entry is one only where the entry is finite. -/
theorem real_of_word {s : Shape} {v : FVec Ideal s .f32} {h : S_.BroadcastsInDim s (![] : Fin 0 → Fin s.rank)} {y : s.Idx}
    (e : cmpf .olt (Host.absf v) (broadcastInDim s ![] h (constant (F := Ideal) S_ .f32 0x7F800000#32)) y = 1#1) : IsReal (v y) := by
  have e' : Ideal.cmp .olt (max (v y) (-(v y))) (Ideal.ofBits .f32 0x7F800000#32) = 1#1 := e
  rw [lit_top, Ideal.cmp_olt] at e'
  refine IsReal.of_abs ?_
  by_contra hn
  rw [decide_eq_false hn] at e'
  exact absurd e' (by decide)

/-- Two words' conjunction is one only where both are. -/
theorem and_one {a b : IVec S_ 1} (h : andi a b = fun _ => 1#1) : a = (fun _ => 1#1) ∧ b = (fun _ => 1#1) :=
  ⟨funext fun i => (IntOp.andi_eq_one.1 (congrFun h i)).1, funext fun i => (IntOp.andi_eq_one.1 (congrFun h i)).2⟩

variable [Cert.Pre_finite_arguments.Facts]

/-- Under the precondition everything that enters a product is finite. -/
theorem pre_real {x : FVec Ideal S10000x256 .f32} {adj : FVec Ideal S10000x10000 .f32} {W1 : FVec Ideal S256x8 .f32} {b1 : FVec Ideal S8 .f32} {W2 : FVec Ideal S8x40 .f32} {b2 : FVec Ideal S40 .f32}
    (h : fn (F := Ideal) x adj W1 b1 W2 b2 = fun _ => 1#1) :
    (∀ i, IsReal (x i)) ∧ (∀ i, IsReal (adj i)) ∧ (∀ i, IsReal (W1 i)) ∧ (∀ i, IsReal (b1 i)) ∧ (∀ i, IsReal (W2 i)) := by
  unfold fn fn_part1 at h
  obtain ⟨h, h4⟩ := and_one h
  obtain ⟨h, h3⟩ := and_one h
  obtain ⟨h, h2⟩ := and_one h
  obtain ⟨h0, h1⟩ := and_one h
  have at0 := fun {b : IVec S_ 1} (h : b = fun _ => 1#1) => congrFun h (fun i => i.elim0)
  exact ⟨fun i => real_of_word (Host.reduce_andi_all _ _ _ _ _ (at0 h0) i), fun i => real_of_word (Host.reduce_andi_all _ _ _ _ _ (at0 h1) i),
    fun i => real_of_word (Host.reduce_andi_all _ _ _ _ _ (at0 h2) i), fun i => real_of_word (Host.reduce_andi_all _ _ _ _ _ (at0 h3) i),
    fun i => real_of_word (Host.reduce_andi_all _ _ _ _ _ (at0 h4) i)⟩

end Cert.Value

end
-- ==== Proof.Value.Equation.lean ====
module

public import proofs.«01_k».proof.Proof.Ideal.Run
public import proofs.«01_k».proof.Proof.Value.Pass2
public import proofs.«01_k».proof.Proof.Value.Reference
public import proofs.«01_k».proof.Proof.Value.Pre
public import Idealize.ShloMosaic.Lib.Claim

/-!
  The equation: what the passes leave and what the reference computes are one array, under the precondition.
-/

@[expose] public section

set_option maxRecDepth 16384

noncomputable section

namespace Cert.Value

open Cert.KernelIdeal Cert.KernelIdeal.Gen Cert.KernelIdeal.Two
open Idealize.ShloMosaic Idealize.ShloMosaic.TcCoe

variable (m : (ℓ : Loc nD τ sig) → Buf (Elt Ideal) ℓ) (c : Dev nD)

/-- A vector as one row, read at an entry. -/
theorem row8 (b : Vec Ideal S8 .f32) (j : Fin 8) : shapeCast S1x8 b shapeCasts_S8_S1x8 (ix2 0 j) = b (ix1 j) := by
  pointwise
/-- The same of the second bias's shape. -/
theorem row40 (b : Vec Ideal S40 .f32) (j : Fin 40) : shapeCast S1x40 b shapeCasts_S40_S1x40 (ix2 0 j) = b (ix1 j) := by
  pointwise

/-- The biases as the host reshapes them. -/
theorem b1_at (j : Fin 8) : V1 m c main_v0 (ix2 (n0 := 1) (n1 := 8) 0 j) = m ((c.tc : Thread nD τ).loc main_arg3) (ix1 (n0 := 8) j) := by
  unfold V1; entry_read
  exact row8 _ j

/-- The second bias's row. -/
theorem b2_at (j : Fin 40) : V1 m c main_v1 (ix2 (n0 := 1) (n1 := 40) 0 j) = m ((c.tc : Thread nD τ).loc main_arg5) (ix1 (n0 := 40) j) := by
  unfold V1; entry_read
  exact row40 _ j

/-- The result from the levels is the result from the adjacency put back to scale. -/
theorem result_eq [Cert.Pre_finite_arguments.Facts]
    (h : Cert.Pre_finite_arguments.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1) (i : Fin 10000) (j : Fin 40) :
    resultQ (V1 m) c i j
      = resultA (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) i j := by
  obtain ⟨hx, ha, hW1, hb1, hW2⟩ := pre_real h
  have r0 : V1 m c main_arg0 = m ((c.tc : Thread nD τ).loc main_arg0) := (V1_of m c main_arg0 (by decide)).trans rfl
  have r1 : V1 m c main_arg1 = m ((c.tc : Thread nD τ).loc main_arg1) := (V1_of m c main_arg1 (by decide)).trans rfl
  have r2 : V1 m c main_arg2 = m ((c.tc : Thread nD τ).loc main_arg2) := (V1_of m c main_arg2 (by decide)).trans rfl
  have r4 : V1 m c main_arg4 = m ((c.tc : Thread nD τ).loc main_arg4) := (V1_of m c main_arg4 (by decide)).trans rfl
  have eh : hiddenOf (V1 m) c = hidden (fun i k => m ((c.tc : Thread nD τ).loc main_arg0) (ix2 (n0 := 10000) (n1 := 256) i k)) (fun i k => m ((c.tc : Thread nD τ).loc main_arg1) (ix2 i k))
      (fun i k => m ((c.tc : Thread nD τ).loc main_arg2) (ix2 i k)) (fun k => m ((c.tc : Thread nD τ).loc main_arg3) (ix1 k)) := by
    funext i j; unfold hiddenOf
    rw [r0, r1, r2]
    exact congrArg (fun b => hidden _ _ _ b i j) (funext fun k => b1_at m c k)
  unfold resultQ resultA
  refine congrArg (fun z => logSoftmax _ z j) (funext fun l => ?_)
  rw [eh, r1, r4, funext (b2_at m c)]
  exact logits_eq _ (fun k => ha _) (fun k j => proj_real (hidden_real (fun _ _ => hx _) (fun _ _ => ha _) (fun _ _ => hW1 _) (fun _ => hb1 _)) (fun _ _ => hW2 _) k j) l

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_arguments
public import proofs.«01_k».proof.Proof.Ideal.Plain
public import proofs.«01_k».proof.Proof.Ideal.Run
public import proofs.«01_k».proof.Proof.Value.Equation
public import Idealize.ShloMosaic.Adequacy
public import Idealize.ShloMosaic.Init
public import Idealize.ShloMosaic.Lib.Quiescent

@[expose] public section

noncomputable section

namespace Cert.Proof

open Idealize.ShloMosaic Idealize.SL.Sem

/-- The ideal kernel terminates without fault, its arguments unchanged and its semaphores at zero. -/
theorem frame_ki : Cert.quiescent_KernelIdeal := fun m ρ _ =>
  (θ_run Cert.KernelIdeal.defs _ _).mono (fun _ h => ⟨fun c => (h.1 c).2, h.2⟩) (Cert.KernelIdeal.Two.run (F := Ideal) m ρ)

/-- The same under the precondition. -/
theorem frame_ki_pre : Cert.quiescent_KernelIdeal_pre_finite_arguments := fun m ρ _ =>
  (θ_run Cert.KernelIdeal.defs _ _).mono (fun _ h => ⟨fun c => (h.1 c).2, h.2⟩) (Cert.KernelIdeal.Two.run (F := Ideal) m ρ)

/-- The ideal reference terminates without fault, its arguments unchanged and its semaphores at zero. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_ri_pre : Cert.quiescent_ReferenceIdeal_pre_finite_arguments := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named scale is 1/15 over the extended reals. -/
theorem kept : Cert.preserves_Kernel_KernelIdeal :=
  IdealRules.named_const.statement Cert.KernelIdeal.κ "inv_scale" .f32 0x3D888889#32 ((1 / 15 : ℝ) : EReal) rfl

/-- Under the precondition both programs end with one array: the network's rows, by the reference's way of writing them. -/
theorem alg : Cert.algebraic_KernelIdeal_ReferenceIdeal_pre_finite_arguments := fun m ρ m' ρ' hpre hagree => by
  refine ⟨fun c i => Cert.Value.resultQ (Cert.KernelIdeal.Gen.V1 m) c (i 0) (i 1), ?_, ?_⟩
  · refine (θ_run Cert.KernelIdeal.defs _ _).mono (fun r h c => ⟨?_, (h.1 c).2⟩) (Cert.KernelIdeal.Two.run (F := Ideal) m ρ)
    obtain ⟨x, a, hl, ho⟩ := (h.1 c).1
    exact ho.trans (Cert.Value.pass2_out (Cert.KernelIdeal.Gen.V1 m) c (x := fun _ => x) (a := fun _ => a) hl)
  · refine (θ_run Cert.ReferenceIdeal.defs _ _).mono (fun r h c => ⟨(h c).1.trans (funext fun i => ?_), (h c).2⟩) (Cert.ReferenceIdeal.Value.run (F := Ideal) m' ρ')
    obtain ⟨e0, e1, e2, e3, e4, e5⟩ := hagree c
    refine Eq.trans (congrArg _ (?_ : i = ix2 (n0 := 10000) (n1 := 40) (i 0) (i 1))) ((Cert.Value.res_at m' c (i 0) (i 1)).trans ?_)
    · funext a; fin_cases a <;> rfl
    · rw [e0, e1, e2, e3, e4, e5]
      exact (Cert.Value.result_eq m c (hpre c) (i 0) (i 1)).symm

/-- The whole claim. -/
theorem claim : Cert.Claim :=
  ⟨Cert.Kernel.Gen.facts, Cert.KernelIdeal.Gen.facts, Cert.ReferenceIdeal.Gen.facts, Cert.Pre_finite_arguments.Gen.facts,
    Cert.Plain.frame, frame_ki, frame_ki_pre, frame_ri, frame_ri_pre, kept, alg⟩

end Cert.Proof

end
